-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x8192x64 : Shape := ⟨3, ![4, 8192, 64]⟩
abbrev S_ : Shape := ⟨0, ![]⟩

class Facts : Prop where
  bcast_S_S4x8192x64 : S_.BroadcastsInDim S4x8192x64 (![] : Fin 0 → Fin S4x8192x64.rank)
  reducesTo_S4x8192x64_S_d0_1_2 : S4x8192x64.ReducesTo [0, 1, 2] S_
  h_S_ : 0 < S_.numel

variable [Facts]

def fn {F : FTy → Type} [FloatOps F] (main_arg0 : FVec F S4x8192x64 .f32) : IVec S_ 1 :=
  let main_v0 : FVec F S4x8192x64 .f32 := Host.absf main_arg0
  let main_cst : FVec F S_ .f32 := constant S_ .f32 0x7F800000#32
  let main_v1 : FVec F S4x8192x64 .f32 := broadcastInDim S4x8192x64 ![] bcast_S_S4x8192x64 main_cst
  let main_v2 : IVec S4x8192x64 1 := cmpf .olt main_v0 main_v1
  let main_c : IVec S_ 1 := constantI S_ 1 1#1
  let main_v3 : IVec S_ 1 := (fun x v => Host.reduce IntOp.andi x v reducesTo_S4x8192x64_S_d0_1_2 h_S_) main_v2 main_c
  main_v3
-- ==== Kernel.lean ====
abbrev S4x8192x64 : Shape := ⟨3, ![4, 8192, 64]⟩
abbrev S32x16 : Shape := ⟨2, ![32, 16]⟩
abbrev S256x64 : Shape := ⟨2, ![256, 64]⟩
abbrev S2176 : Shape := ⟨1, ![2176]⟩
abbrev S16 : Shape := ⟨1, ![16]⟩
abbrev S_ : Shape := ⟨0, ![]⟩
abbrev S1x256x64 : Shape := ⟨3, ![1, 256, 64]⟩
abbrev S1x16 : Shape := ⟨2, ![1, 16]⟩
abbrev S1x1 : Shape := ⟨2, ![1, 1]⟩
abbrev S1x512x64 : Shape := ⟨3, ![1, 512, 64]⟩
abbrev S512x64 : Shape := ⟨2, ![512, 64]⟩
abbrev S64x256 : Shape := ⟨2, ![64, 256]⟩
abbrev S256 : Shape := ⟨1, ![256]⟩
abbrev S1x256 : Shape := ⟨2, ![1, 256]⟩
abbrev S1 : Shape := ⟨1, ![1]⟩

abbrev nBuf : Table → Nat
  | .hbm => 9
  | .local .tc .vmem => 3
  | .local .scVector .vmem => 4
  | _ => 0

abbrev bufTy : (tb : Table) → Fin (nBuf tb) → BufTy
  | .hbm, ⟨0, _⟩ => ⟨S4x8192x64, .f32⟩
  | .hbm, ⟨1, _⟩ => ⟨S32x16, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local .tc .vmem, ⟨0, _⟩ => ⟨S1x512x64, .f32⟩
  | .local .tc .vmem, ⟨1, _⟩ => ⟨S1x512x64, .f32⟩
  | .local .tc .vmem, ⟨2, _⟩ => ⟨S1x1, .f32⟩
  | .local .scVector .vmem, ⟨0, _⟩ => ⟨S256x64, .f32⟩
  | .local .scVector .vmem, ⟨1, _⟩ => ⟨S256x64, .f32⟩
  | .local .scVector .vmem, ⟨2, _⟩ => ⟨S2176, .f32⟩
  | .local .scVector .vmem, ⟨3, _⟩ => ⟨S16, .f32⟩
  | _, _ => ⟨S4x8192x64, .f32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => true
  | ⟨4, _⟩ => true
  | ⟨5, _⟩ => true
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_arg0_scv : Ref sig .scVector := ⟨.hbm, 0, rfl⟩
abbrev main_v0_scv : Ref sig .scVector := ⟨.hbm, 1, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 3
abbrev cc1_sem0_1 : DmaSem sig := 4
abbrev cc1_sem1_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_10 : BitVec 32) : Fin 3 → Nat :=
  let c16384_i32 : BitVec 32 := 16384#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi c16384_i32 v2
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c8192_i32 : BitVec 32 := 8192#32
  let c0_i32_1 : BitVec 32 := 0#32
  let v10 : BitVec 1 := Scalar.cmpi .sgt c8192_i32 c0_i32_1
  let v11 : BitVec 32 := Scalar.extui v10
  let c0_i32_2 : BitVec 32 := 0#32
  let v12 : BitVec 1 := Scalar.cmpi .slt c8192_i32 c0_i32_2
  let v13 : BitVec 32 := Scalar.extui v12
  let v14 : BitVec 32 := Scalar.subi v11 v13
  let v15 : BitVec 1 := Scalar.cmpi .ne v9 v14
  let v16 : BitVec 32 := Scalar.remsi v3 c8192_i32
  let c0_i32_3 : BitVec 32 := 0#32
  let v17 : BitVec 1 := Scalar.cmpi .ne v16 c0_i32_3
  let v18 : BitVec 1 := Scalar.andi v15 v17
  let v4 : BitVec 32 := Scalar.divsi v3 c8192_i32
  let c1_i32 : BitVec 32 := 1#32
  let v19 : BitVec 32 := Scalar.subi v4 c1_i32
  let v20 : BitVec 32 := Scalar.select v18 v19 v4
  let c8192_i32_4 : BitVec 32 := 8192#32
  let c0_i32_5 : BitVec 32 := 0#32
  let v21 : BitVec 1 := Scalar.cmpi .eq c8192_i32_4 c0_i32_5
  let c1_i32_6 : BitVec 32 := 1#32
  let v22 : BitVec 32 := Scalar.select v21 c1_i32_6 c8192_i32_4
  let v23 : BitVec 32 := Scalar.remsi v3 v22
  let c0_i32_8 : BitVec 32 := 0#32
  let v25 : BitVec 1 := Scalar.cmpi .slt v23 c0_i32_8
  let c0_i32_9 : BitVec 32 := 0#32
  let v26 : BitVec 1 := Scalar.cmpi .slt v22 c0_i32_9
  let v27 : BitVec 1 := Scalar.xori v25 v26
  let c0_i32_7 : BitVec 32 := 0#32
  let v24 : BitVec 1 := Scalar.cmpi .ne v23 c0_i32_7
  let v28 : BitVec 1 := Scalar.andi v27 v24
  let v29 : BitVec 32 := Scalar.addi v23 v22
  let v30 : BitVec 32 := Scalar.select v28 v29 v23
  let v35 : BitVec 32 := Scalar.addi v30 c0_i32_10
  let c0_i32_11 : BitVec 32 := 0#32
  ![v20.toNat, v35.toNat, 0]
@[reducible] def k0_t1_loop : Scf.Loop 32 :=
  let c0_i32_17 : BitVec 32 := 0#32
  let c8_i32 : BitVec 32 := 8#32
  let v49 : BitVec 32 := Scalar.addi c0_i32_17 c8_i32
  let c1_i32_18 : BitVec 32 := 1#32
  ⟨c0_i32_17, v49, c1_i32_18⟩
def k0_off2 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c0_i32_27 : BitVec 32 := 0#32
  let v60 : BitVec 32 := Scalar.addi v59 c0_i32_27
  let v61 : Index := Scalar.indexCast v60
  let c0_28 : Index := 0#32
  ![v61.toNat, 0]

def k0_chk1 (v64 : IVec S16 32) : Prop :=
  (∀ a x, ((![v64] : Fin 1 → IVec S16 32) a x).toNat < S2176.size a)
theorem k0_idx1_inb : ∀ (v64 : IVec S16 32) (k0_hw1 : k0_chk1 v64), ∀ a x, ((![v64] : Fin 1 → IVec S16 32) a x).toNat < S2176.size a := fun v64 k0_hw1 => k0_hw1
def k0_off3 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c0_i32_30 : BitVec 32 := 0#32
  let v65 : BitVec 32 := Scalar.addi v59 c0_i32_30
  let v66 : Index := Scalar.indexCast v65
  let c16 : Index := 16#32
  ![v66.toNat, 16]

def k0_chk2 (v69 : IVec S16 32) : Prop :=
  (∀ a x, ((![v69] : Fin 1 → IVec S16 32) a x).toNat < S2176.size a)
theorem k0_idx2_inb : ∀ (v69 : IVec S16 32) (k0_hw2 : k0_chk2 v69), ∀ a x, ((![v69] : Fin 1 → IVec S16 32) a x).toNat < S2176.size a := fun v69 k0_hw2 => k0_hw2
def k0_off4 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c0_i32_31 : BitVec 32 := 0#32
  let v70 : BitVec 32 := Scalar.addi v59 c0_i32_31
  let v71 : Index := Scalar.indexCast v70
  let c32 : Index := 32#32
  ![v71.toNat, 32]

def k0_chk3 (v74 : IVec S16 32) : Prop :=
  (∀ a x, ((![v74] : Fin 1 → IVec S16 32) a x).toNat < S2176.size a)
theorem k0_idx3_inb : ∀ (v74 : IVec S16 32) (k0_hw3 : k0_chk3 v74), ∀ a x, ((![v74] : Fin 1 → IVec S16 32) a x).toNat < S2176.size a := fun v74 k0_hw3 => k0_hw3
def k0_off5 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c0_i32_32 : BitVec 32 := 0#32
  let v75 : BitVec 32 := Scalar.addi v59 c0_i32_32
  let v76 : Index := Scalar.indexCast v75
  let c48 : Index := 48#32
  ![v76.toNat, 48]

def k0_chk4 (v79 : IVec S16 32) : Prop :=
  (∀ a x, ((![v79] : Fin 1 → IVec S16 32) a x).toNat < S2176.size a)
theorem k0_idx4_inb : ∀ (v79 : IVec S16 32) (k0_hw4 : k0_chk4 v79), ∀ a x, ((![v79] : Fin 1 → IVec S16 32) a x).toNat < S2176.size a := fun v79 k0_hw4 => k0_hw4
def k0_off6 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c1_i32_33 : BitVec 32 := 1#32
  let v80 : BitVec 32 := Scalar.addi v59 c1_i32_33
  let v81 : Index := Scalar.indexCast v80
  let c0_34 : Index := 0#32
  ![v81.toNat, 0]

def k0_chk5 (v84 : IVec S16 32) : Prop :=
  (∀ a x, ((![v84] : Fin 1 → IVec S16 32) a x).toNat < S2176.size a)
theorem k0_idx5_inb : ∀ (v84 : IVec S16 32) (k0_hw5 : k0_chk5 v84), ∀ a x, ((![v84] : Fin 1 → IVec S16 32) a x).toNat < S2176.size a := fun v84 k0_hw5 => k0_hw5
def k0_off7 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c1_i32_36 : BitVec 32 := 1#32
  let v85 : BitVec 32 := Scalar.addi v59 c1_i32_36
  let v86 : Index := Scalar.indexCast v85
  let c16_37 : Index := 16#32
  ![v86.toNat, 16]

def k0_chk6 (v89 : IVec S16 32) : Prop :=
  (∀ a x, ((![v89] : Fin 1 → IVec S16 32) a x).toNat < S2176.size a)
theorem k0_idx6_inb : ∀ (v89 : IVec S16 32) (k0_hw6 : k0_chk6 v89), ∀ a x, ((![v89] : Fin 1 → IVec S16 32) a x).toNat < S2176.size a := fun v89 k0_hw6 => k0_hw6
def k0_off8 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c1_i32_38 : BitVec 32 := 1#32
  let v90 : BitVec 32 := Scalar.addi v59 c1_i32_38
  let v91 : Index := Scalar.indexCast v90
  let c32_39 : Index := 32#32
  ![v91.toNat, 32]

def k0_chk7 (v94 : IVec S16 32) : Prop :=
  (∀ a x, ((![v94] : Fin 1 → IVec S16 32) a x).toNat < S2176.size a)
theorem k0_idx7_inb : ∀ (v94 : IVec S16 32) (k0_hw7 : k0_chk7 v94), ∀ a x, ((![v94] : Fin 1 → IVec S16 32) a x).toNat < S2176.size a := fun v94 k0_hw7 => k0_hw7
def k0_off9 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c1_i32_40 : BitVec 32 := 1#32
  let v95 : BitVec 32 := Scalar.addi v59 c1_i32_40
  let v96 : Index := Scalar.indexCast v95
  let c48_41 : Index := 48#32
  ![v96.toNat, 48]

def k0_chk8 (v99 : IVec S16 32) : Prop :=
  (∀ a x, ((![v99] : Fin 1 → IVec S16 32) a x).toNat < S2176.size a)
theorem k0_idx8_inb : ∀ (v99 : IVec S16 32) (k0_hw8 : k0_chk8 v99), ∀ a x, ((![v99] : Fin 1 → IVec S16 32) a x).toNat < S2176.size a := fun v99 k0_hw8 => k0_hw8
def k0_off10 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c2_i32_42 : BitVec 32 := 2#32
  let v100 : BitVec 32 := Scalar.addi v59 c2_i32_42
  let v101 : Index := Scalar.indexCast v100
  let c0_43 : Index := 0#32
  ![v101.toNat, 0]

def k0_chk9 (v104 : IVec S16 32) : Prop :=
  (∀ a x, ((![v104] : Fin 1 → IVec S16 32) a x).toNat < S2176.size a)
theorem k0_idx9_inb : ∀ (v104 : IVec S16 32) (k0_hw9 : k0_chk9 v104), ∀ a x, ((![v104] : Fin 1 → IVec S16 32) a x).toNat < S2176.size a := fun v104 k0_hw9 => k0_hw9
def k0_off11 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c2_i32_45 : BitVec 32 := 2#32
  let v105 : BitVec 32 := Scalar.addi v59 c2_i32_45
  let v106 : Index := Scalar.indexCast v105
  let c16_46 : Index := 16#32
  ![v106.toNat, 16]

def k0_chk10 (v109 : IVec S16 32) : Prop :=
  (∀ a x, ((![v109] : Fin 1 → IVec S16 32) a x).toNat < S2176.size a)
theorem k0_idx10_inb : ∀ (v109 : IVec S16 32) (k0_hw10 : k0_chk10 v109), ∀ a x, ((![v109] : Fin 1 → IVec S16 32) a x).toNat < S2176.size a := fun v109 k0_hw10 => k0_hw10
def k0_off12 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c2_i32_47 : BitVec 32 := 2#32
  let v110 : BitVec 32 := Scalar.addi v59 c2_i32_47
  let v111 : Index := Scalar.indexCast v110
  let c32_48 : Index := 32#32
  ![v111.toNat, 32]

def k0_chk11 (v114 : IVec S16 32) : Prop :=
  (∀ a x, ((![v114] : Fin 1 → IVec S16 32) a x).toNat < S2176.size a)
theorem k0_idx11_inb : ∀ (v114 : IVec S16 32) (k0_hw11 : k0_chk11 v114), ∀ a x, ((![v114] : Fin 1 → IVec S16 32) a x).toNat < S2176.size a := fun v114 k0_hw11 => k0_hw11
def k0_off13 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c2_i32_49 : BitVec 32 := 2#32
  let v115 : BitVec 32 := Scalar.addi v59 c2_i32_49
  let v116 : Index := Scalar.indexCast v115
  let c48_50 : Index := 48#32
  ![v116.toNat, 48]

def k0_chk12 (v119 : IVec S16 32) : Prop :=
  (∀ a x, ((![v119] : Fin 1 → IVec S16 32) a x).toNat < S2176.size a)
theorem k0_idx12_inb : ∀ (v119 : IVec S16 32) (k0_hw12 : k0_chk12 v119), ∀ a x, ((![v119] : Fin 1 → IVec S16 32) a x).toNat < S2176.size a := fun v119 k0_hw12 => k0_hw12
def k0_off14 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c3_i32 : BitVec 32 := 3#32
  let v120 : BitVec 32 := Scalar.addi v59 c3_i32
  let v121 : Index := Scalar.indexCast v120
  let c0_51 : Index := 0#32
  ![v121.toNat, 0]

def k0_chk13 (v124 : IVec S16 32) : Prop :=
  (∀ a x, ((![v124] : Fin 1 → IVec S16 32) a x).toNat < S2176.size a)
theorem k0_idx13_inb : ∀ (v124 : IVec S16 32) (k0_hw13 : k0_chk13 v124), ∀ a x, ((![v124] : Fin 1 → IVec S16 32) a x).toNat < S2176.size a := fun v124 k0_hw13 => k0_hw13
def k0_off15 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c3_i32_53 : BitVec 32 := 3#32
  let v125 : BitVec 32 := Scalar.addi v59 c3_i32_53
  let v126 : Index := Scalar.indexCast v125
  let c16_54 : Index := 16#32
  ![v126.toNat, 16]

def k0_chk14 (v129 : IVec S16 32) : Prop :=
  (∀ a x, ((![v129] : Fin 1 → IVec S16 32) a x).toNat < S2176.size a)
theorem k0_idx14_inb : ∀ (v129 : IVec S16 32) (k0_hw14 : k0_chk14 v129), ∀ a x, ((![v129] : Fin 1 → IVec S16 32) a x).toNat < S2176.size a := fun v129 k0_hw14 => k0_hw14
def k0_off16 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c3_i32_55 : BitVec 32 := 3#32
  let v130 : BitVec 32 := Scalar.addi v59 c3_i32_55
  let v131 : Index := Scalar.indexCast v130
  let c32_56 : Index := 32#32
  ![v131.toNat, 32]

def k0_chk15 (v134 : IVec S16 32) : Prop :=
  (∀ a x, ((![v134] : Fin 1 → IVec S16 32) a x).toNat < S2176.size a)
theorem k0_idx15_inb : ∀ (v134 : IVec S16 32) (k0_hw15 : k0_chk15 v134), ∀ a x, ((![v134] : Fin 1 → IVec S16 32) a x).toNat < S2176.size a := fun v134 k0_hw15 => k0_hw15
def k0_off17 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c3_i32_57 : BitVec 32 := 3#32
  let v135 : BitVec 32 := Scalar.addi v59 c3_i32_57
  let v136 : Index := Scalar.indexCast v135
  let c48_58 : Index := 48#32
  ![v136.toNat, 48]

def k0_chk16 (v139 : IVec S16 32) : Prop :=
  (∀ a x, ((![v139] : Fin 1 → IVec S16 32) a x).toNat < S2176.size a)
theorem k0_idx16_inb : ∀ (v139 : IVec S16 32) (k0_hw16 : k0_chk16 v139), ∀ a x, ((![v139] : Fin 1 → IVec S16 32) a x).toNat < S2176.size a := fun v139 k0_hw16 => k0_hw16
def k0_off18 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c4_i32 : BitVec 32 := 4#32
  let v140 : BitVec 32 := Scalar.addi v59 c4_i32
  let v141 : Index := Scalar.indexCast v140
  let c0_59 : Index := 0#32
  ![v141.toNat, 0]

def k0_chk17 (v144 : IVec S16 32) : Prop :=
  (∀ a x, ((![v144] : Fin 1 → IVec S16 32) a x).toNat < S2176.size a)
theorem k0_idx17_inb : ∀ (v144 : IVec S16 32) (k0_hw17 : k0_chk17 v144), ∀ a x, ((![v144] : Fin 1 → IVec S16 32) a x).toNat < S2176.size a := fun v144 k0_hw17 => k0_hw17
def k0_off19 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c4_i32_61 : BitVec 32 := 4#32
  let v145 : BitVec 32 := Scalar.addi v59 c4_i32_61
  let v146 : Index := Scalar.indexCast v145
  let c16_62 : Index := 16#32
  ![v146.toNat, 16]

def k0_chk18 (v149 : IVec S16 32) : Prop :=
  (∀ a x, ((![v149] : Fin 1 → IVec S16 32) a x).toNat < S2176.size a)
theorem k0_idx18_inb : ∀ (v149 : IVec S16 32) (k0_hw18 : k0_chk18 v149), ∀ a x, ((![v149] : Fin 1 → IVec S16 32) a x).toNat < S2176.size a := fun v149 k0_hw18 => k0_hw18
def k0_off20 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c4_i32_63 : BitVec 32 := 4#32
  let v150 : BitVec 32 := Scalar.addi v59 c4_i32_63
  let v151 : Index := Scalar.indexCast v150
  let c32_64 : Index := 32#32
  ![v151.toNat, 32]

def k0_chk19 (v154 : IVec S16 32) : Prop :=
  (∀ a x, ((![v154] : Fin 1 → IVec S16 32) a x).toNat < S2176.size a)
theorem k0_idx19_inb : ∀ (v154 : IVec S16 32) (k0_hw19 : k0_chk19 v154), ∀ a x, ((![v154] : Fin 1 → IVec S16 32) a x).toNat < S2176.size a := fun v154 k0_hw19 => k0_hw19
def k0_off21 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c4_i32_65 : BitVec 32 := 4#32
  let v155 : BitVec 32 := Scalar.addi v59 c4_i32_65
  let v156 : Index := Scalar.indexCast v155
  let c48_66 : Index := 48#32
  ![v156.toNat, 48]

def k0_chk20 (v159 : IVec S16 32) : Prop :=
  (∀ a x, ((![v159] : Fin 1 → IVec S16 32) a x).toNat < S2176.size a)
theorem k0_idx20_inb : ∀ (v159 : IVec S16 32) (k0_hw20 : k0_chk20 v159), ∀ a x, ((![v159] : Fin 1 → IVec S16 32) a x).toNat < S2176.size a := fun v159 k0_hw20 => k0_hw20
def k0_off22 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c5_i32 : BitVec 32 := 5#32
  let v160 : BitVec 32 := Scalar.addi v59 c5_i32
  let v161 : Index := Scalar.indexCast v160
  let c0_67 : Index := 0#32
  ![v161.toNat, 0]

def k0_chk21 (v164 : IVec S16 32) : Prop :=
  (∀ a x, ((![v164] : Fin 1 → IVec S16 32) a x).toNat < S2176.size a)
theorem k0_idx21_inb : ∀ (v164 : IVec S16 32) (k0_hw21 : k0_chk21 v164), ∀ a x, ((![v164] : Fin 1 → IVec S16 32) a x).toNat < S2176.size a := fun v164 k0_hw21 => k0_hw21
def k0_off23 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c5_i32_69 : BitVec 32 := 5#32
  let v165 : BitVec 32 := Scalar.addi v59 c5_i32_69
  let v166 : Index := Scalar.indexCast v165
  let c16_70 : Index := 16#32
  ![v166.toNat, 16]

def k0_chk22 (v169 : IVec S16 32) : Prop :=
  (∀ a x, ((![v169] : Fin 1 → IVec S16 32) a x).toNat < S2176.size a)
theorem k0_idx22_inb : ∀ (v169 : IVec S16 32) (k0_hw22 : k0_chk22 v169), ∀ a x, ((![v169] : Fin 1 → IVec S16 32) a x).toNat < S2176.size a := fun v169 k0_hw22 => k0_hw22
def k0_off24 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c5_i32_71 : BitVec 32 := 5#32
  let v170 : BitVec 32 := Scalar.addi v59 c5_i32_71
  let v171 : Index := Scalar.indexCast v170
  let c32_72 : Index := 32#32
  ![v171.toNat, 32]

def k0_chk23 (v174 : IVec S16 32) : Prop :=
  (∀ a x, ((![v174] : Fin 1 → IVec S16 32) a x).toNat < S2176.size a)
theorem k0_idx23_inb : ∀ (v174 : IVec S16 32) (k0_hw23 : k0_chk23 v174), ∀ a x, ((![v174] : Fin 1 → IVec S16 32) a x).toNat < S2176.size a := fun v174 k0_hw23 => k0_hw23
def k0_off25 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c5_i32_73 : BitVec 32 := 5#32
  let v175 : BitVec 32 := Scalar.addi v59 c5_i32_73
  let v176 : Index := Scalar.indexCast v175
  let c48_74 : Index := 48#32
  ![v176.toNat, 48]

def k0_chk24 (v179 : IVec S16 32) : Prop :=
  (∀ a x, ((![v179] : Fin 1 → IVec S16 32) a x).toNat < S2176.size a)
theorem k0_idx24_inb : ∀ (v179 : IVec S16 32) (k0_hw24 : k0_chk24 v179), ∀ a x, ((![v179] : Fin 1 → IVec S16 32) a x).toNat < S2176.size a := fun v179 k0_hw24 => k0_hw24
def k0_off26 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c6_i32 : BitVec 32 := 6#32
  let v180 : BitVec 32 := Scalar.addi v59 c6_i32
  let v181 : Index := Scalar.indexCast v180
  let c0_75 : Index := 0#32
  ![v181.toNat, 0]

def k0_chk25 (v184 : IVec S16 32) : Prop :=
  (∀ a x, ((![v184] : Fin 1 → IVec S16 32) a x).toNat < S2176.size a)
theorem k0_idx25_inb : ∀ (v184 : IVec S16 32) (k0_hw25 : k0_chk25 v184), ∀ a x, ((![v184] : Fin 1 → IVec S16 32) a x).toNat < S2176.size a := fun v184 k0_hw25 => k0_hw25
def k0_off27 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c6_i32_77 : BitVec 32 := 6#32
  let v185 : BitVec 32 := Scalar.addi v59 c6_i32_77
  let v186 : Index := Scalar.indexCast v185
  let c16_78 : Index := 16#32
  ![v186.toNat, 16]

def k0_chk26 (v189 : IVec S16 32) : Prop :=
  (∀ a x, ((![v189] : Fin 1 → IVec S16 32) a x).toNat < S2176.size a)
theorem k0_idx26_inb : ∀ (v189 : IVec S16 32) (k0_hw26 : k0_chk26 v189), ∀ a x, ((![v189] : Fin 1 → IVec S16 32) a x).toNat < S2176.size a := fun v189 k0_hw26 => k0_hw26
def k0_off28 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c6_i32_79 : BitVec 32 := 6#32
  let v190 : BitVec 32 := Scalar.addi v59 c6_i32_79
  let v191 : Index := Scalar.indexCast v190
  let c32_80 : Index := 32#32
  ![v191.toNat, 32]

def k0_chk27 (v194 : IVec S16 32) : Prop :=
  (∀ a x, ((![v194] : Fin 1 → IVec S16 32) a x).toNat < S2176.size a)
theorem k0_idx27_inb : ∀ (v194 : IVec S16 32) (k0_hw27 : k0_chk27 v194), ∀ a x, ((![v194] : Fin 1 → IVec S16 32) a x).toNat < S2176.size a := fun v194 k0_hw27 => k0_hw27
def k0_off29 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c6_i32_81 : BitVec 32 := 6#32
  let v195 : BitVec 32 := Scalar.addi v59 c6_i32_81
  let v196 : Index := Scalar.indexCast v195
  let c48_82 : Index := 48#32
  ![v196.toNat, 48]

def k0_chk28 (v199 : IVec S16 32) : Prop :=
  (∀ a x, ((![v199] : Fin 1 → IVec S16 32) a x).toNat < S2176.size a)
theorem k0_idx28_inb : ∀ (v199 : IVec S16 32) (k0_hw28 : k0_chk28 v199), ∀ a x, ((![v199] : Fin 1 → IVec S16 32) a x).toNat < S2176.size a := fun v199 k0_hw28 => k0_hw28
def k0_off30 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c7_i32 : BitVec 32 := 7#32
  let v200 : BitVec 32 := Scalar.addi v59 c7_i32
  let v201 : Index := Scalar.indexCast v200
  let c0_83 : Index := 0#32
  ![v201.toNat, 0]

def k0_chk29 (v204 : IVec S16 32) : Prop :=
  (∀ a x, ((![v204] : Fin 1 → IVec S16 32) a x).toNat < S2176.size a)
theorem k0_idx29_inb : ∀ (v204 : IVec S16 32) (k0_hw29 : k0_chk29 v204), ∀ a x, ((![v204] : Fin 1 → IVec S16 32) a x).toNat < S2176.size a := fun v204 k0_hw29 => k0_hw29
def k0_off31 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c7_i32_85 : BitVec 32 := 7#32
  let v205 : BitVec 32 := Scalar.addi v59 c7_i32_85
  let v206 : Index := Scalar.indexCast v205
  let c16_86 : Index := 16#32
  ![v206.toNat, 16]

def k0_chk30 (v209 : IVec S16 32) : Prop :=
  (∀ a x, ((![v209] : Fin 1 → IVec S16 32) a x).toNat < S2176.size a)
theorem k0_idx30_inb : ∀ (v209 : IVec S16 32) (k0_hw30 : k0_chk30 v209), ∀ a x, ((![v209] : Fin 1 → IVec S16 32) a x).toNat < S2176.size a := fun v209 k0_hw30 => k0_hw30
def k0_off32 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c7_i32_87 : BitVec 32 := 7#32
  let v210 : BitVec 32 := Scalar.addi v59 c7_i32_87
  let v211 : Index := Scalar.indexCast v210
  let c32_88 : Index := 32#32
  ![v211.toNat, 32]

def k0_chk31 (v214 : IVec S16 32) : Prop :=
  (∀ a x, ((![v214] : Fin 1 → IVec S16 32) a x).toNat < S2176.size a)
theorem k0_idx31_inb : ∀ (v214 : IVec S16 32) (k0_hw31 : k0_chk31 v214), ∀ a x, ((![v214] : Fin 1 → IVec S16 32) a x).toNat < S2176.size a := fun v214 k0_hw31 => k0_hw31
def k0_off33 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c7_i32_89 : BitVec 32 := 7#32
  let v215 : BitVec 32 := Scalar.addi v59 c7_i32_89
  let v216 : Index := Scalar.indexCast v215
  let c48_90 : Index := 48#32
  ![v216.toNat, 48]

def k0_chk32 (v219 : IVec S16 32) : Prop :=
  (∀ a x, ((![v219] : Fin 1 → IVec S16 32) a x).toNat < S2176.size a)
theorem k0_idx32_inb : ∀ (v219 : IVec S16 32) (k0_hw32 : k0_chk32 v219), ∀ a x, ((![v219] : Fin 1 → IVec S16 32) a x).toNat < S2176.size a := fun v219 k0_hw32 => k0_hw32
def k0_off34 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c8_i32_91 : BitVec 32 := 8#32
  let v220 : BitVec 32 := Scalar.addi v59 c8_i32_91
  let v221 : Index := Scalar.indexCast v220
  let c0_92 : Index := 0#32
  ![v221.toNat, 0]

def k0_chk33 (v224 : IVec S16 32) : Prop :=
  (∀ a x, ((![v224] : Fin 1 → IVec S16 32) a x).toNat < S2176.size a)
theorem k0_idx33_inb : ∀ (v224 : IVec S16 32) (k0_hw33 : k0_chk33 v224), ∀ a x, ((![v224] : Fin 1 → IVec S16 32) a x).toNat < S2176.size a := fun v224 k0_hw33 => k0_hw33
def k0_off35 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c8_i32_94 : BitVec 32 := 8#32
  let v225 : BitVec 32 := Scalar.addi v59 c8_i32_94
  let v226 : Index := Scalar.indexCast v225
  let c16_95 : Index := 16#32
  ![v226.toNat, 16]

def k0_chk34 (v229 : IVec S16 32) : Prop :=
  (∀ a x, ((![v229] : Fin 1 → IVec S16 32) a x).toNat < S2176.size a)
theorem k0_idx34_inb : ∀ (v229 : IVec S16 32) (k0_hw34 : k0_chk34 v229), ∀ a x, ((![v229] : Fin 1 → IVec S16 32) a x).toNat < S2176.size a := fun v229 k0_hw34 => k0_hw34
def k0_off36 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c8_i32_96 : BitVec 32 := 8#32
  let v230 : BitVec 32 := Scalar.addi v59 c8_i32_96
  let v231 : Index := Scalar.indexCast v230
  let c32_97 : Index := 32#32
  ![v231.toNat, 32]

def k0_chk35 (v234 : IVec S16 32) : Prop :=
  (∀ a x, ((![v234] : Fin 1 → IVec S16 32) a x).toNat < S2176.size a)
theorem k0_idx35_inb : ∀ (v234 : IVec S16 32) (k0_hw35 : k0_chk35 v234), ∀ a x, ((![v234] : Fin 1 → IVec S16 32) a x).toNat < S2176.size a := fun v234 k0_hw35 => k0_hw35
def k0_off37 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c8_i32_98 : BitVec 32 := 8#32
  let v235 : BitVec 32 := Scalar.addi v59 c8_i32_98
  let v236 : Index := Scalar.indexCast v235
  let c48_99 : Index := 48#32
  ![v236.toNat, 48]

def k0_chk36 (v239 : IVec S16 32) : Prop :=
  (∀ a x, ((![v239] : Fin 1 → IVec S16 32) a x).toNat < S2176.size a)
theorem k0_idx36_inb : ∀ (v239 : IVec S16 32) (k0_hw36 : k0_chk36 v239), ∀ a x, ((![v239] : Fin 1 → IVec S16 32) a x).toNat < S2176.size a := fun v239 k0_hw36 => k0_hw36
def k0_off38 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c9_i32 : BitVec 32 := 9#32
  let v240 : BitVec 32 := Scalar.addi v59 c9_i32
  let v241 : Index := Scalar.indexCast v240
  let c0_100 : Index := 0#32
  ![v241.toNat, 0]

def k0_chk37 (v244 : IVec S16 32) : Prop :=
  (∀ a x, ((![v244] : Fin 1 → IVec S16 32) a x).toNat < S2176.size a)
theorem k0_idx37_inb : ∀ (v244 : IVec S16 32) (k0_hw37 : k0_chk37 v244), ∀ a x, ((![v244] : Fin 1 → IVec S16 32) a x).toNat < S2176.size a := fun v244 k0_hw37 => k0_hw37
def k0_off39 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c9_i32_102 : BitVec 32 := 9#32
  let v245 : BitVec 32 := Scalar.addi v59 c9_i32_102
  let v246 : Index := Scalar.indexCast v245
  let c16_103 : Index := 16#32
  ![v246.toNat, 16]

def k0_chk38 (v249 : IVec S16 32) : Prop :=
  (∀ a x, ((![v249] : Fin 1 → IVec S16 32) a x).toNat < S2176.size a)
theorem k0_idx38_inb : ∀ (v249 : IVec S16 32) (k0_hw38 : k0_chk38 v249), ∀ a x, ((![v249] : Fin 1 → IVec S16 32) a x).toNat < S2176.size a := fun v249 k0_hw38 => k0_hw38
def k0_off40 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c9_i32_104 : BitVec 32 := 9#32
  let v250 : BitVec 32 := Scalar.addi v59 c9_i32_104
  let v251 : Index := Scalar.indexCast v250
  let c32_105 : Index := 32#32
  ![v251.toNat, 32]

def k0_chk39 (v254 : IVec S16 32) : Prop :=
  (∀ a x, ((![v254] : Fin 1 → IVec S16 32) a x).toNat < S2176.size a)
theorem k0_idx39_inb : ∀ (v254 : IVec S16 32) (k0_hw39 : k0_chk39 v254), ∀ a x, ((![v254] : Fin 1 → IVec S16 32) a x).toNat < S2176.size a := fun v254 k0_hw39 => k0_hw39
def k0_off41 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c9_i32_106 : BitVec 32 := 9#32
  let v255 : BitVec 32 := Scalar.addi v59 c9_i32_106
  let v256 : Index := Scalar.indexCast v255
  let c48_107 : Index := 48#32
  ![v256.toNat, 48]

def k0_chk40 (v259 : IVec S16 32) : Prop :=
  (∀ a x, ((![v259] : Fin 1 → IVec S16 32) a x).toNat < S2176.size a)
theorem k0_idx40_inb : ∀ (v259 : IVec S16 32) (k0_hw40 : k0_chk40 v259), ∀ a x, ((![v259] : Fin 1 → IVec S16 32) a x).toNat < S2176.size a := fun v259 k0_hw40 => k0_hw40
def k0_off42 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c10_i32 : BitVec 32 := 10#32
  let v260 : BitVec 32 := Scalar.addi v59 c10_i32
  let v261 : Index := Scalar.indexCast v260
  let c0_108 : Index := 0#32
  ![v261.toNat, 0]

def k0_chk41 (v264 : IVec S16 32) : Prop :=
  (∀ a x, ((![v264] : Fin 1 → IVec S16 32) a x).toNat < S2176.size a)
theorem k0_idx41_inb : ∀ (v264 : IVec S16 32) (k0_hw41 : k0_chk41 v264), ∀ a x, ((![v264] : Fin 1 → IVec S16 32) a x).toNat < S2176.size a := fun v264 k0_hw41 => k0_hw41
def k0_off43 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c10_i32_110 : BitVec 32 := 10#32
  let v265 : BitVec 32 := Scalar.addi v59 c10_i32_110
  let v266 : Index := Scalar.indexCast v265
  let c16_111 : Index := 16#32
  ![v266.toNat, 16]

def k0_chk42 (v269 : IVec S16 32) : Prop :=
  (∀ a x, ((![v269] : Fin 1 → IVec S16 32) a x).toNat < S2176.size a)
theorem k0_idx42_inb : ∀ (v269 : IVec S16 32) (k0_hw42 : k0_chk42 v269), ∀ a x, ((![v269] : Fin 1 → IVec S16 32) a x).toNat < S2176.size a := fun v269 k0_hw42 => k0_hw42
def k0_off44 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c10_i32_112 : BitVec 32 := 10#32
  let v270 : BitVec 32 := Scalar.addi v59 c10_i32_112
  let v271 : Index := Scalar.indexCast v270
  let c32_113 : Index := 32#32
  ![v271.toNat, 32]

def k0_chk43 (v274 : IVec S16 32) : Prop :=
  (∀ a x, ((![v274] : Fin 1 → IVec S16 32) a x).toNat < S2176.size a)
theorem k0_idx43_inb : ∀ (v274 : IVec S16 32) (k0_hw43 : k0_chk43 v274), ∀ a x, ((![v274] : Fin 1 → IVec S16 32) a x).toNat < S2176.size a := fun v274 k0_hw43 => k0_hw43
def k0_off45 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c10_i32_114 : BitVec 32 := 10#32
  let v275 : BitVec 32 := Scalar.addi v59 c10_i32_114
  let v276 : Index := Scalar.indexCast v275
  let c48_115 : Index := 48#32
  ![v276.toNat, 48]

def k0_chk44 (v279 : IVec S16 32) : Prop :=
  (∀ a x, ((![v279] : Fin 1 → IVec S16 32) a x).toNat < S2176.size a)
theorem k0_idx44_inb : ∀ (v279 : IVec S16 32) (k0_hw44 : k0_chk44 v279), ∀ a x, ((![v279] : Fin 1 → IVec S16 32) a x).toNat < S2176.size a := fun v279 k0_hw44 => k0_hw44
def k0_off46 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c11_i32 : BitVec 32 := 11#32
  let v280 : BitVec 32 := Scalar.addi v59 c11_i32
  let v281 : Index := Scalar.indexCast v280
  let c0_116 : Index := 0#32
  ![v281.toNat, 0]

def k0_chk45 (v284 : IVec S16 32) : Prop :=
  (∀ a x, ((![v284] : Fin 1 → IVec S16 32) a x).toNat < S2176.size a)
theorem k0_idx45_inb : ∀ (v284 : IVec S16 32) (k0_hw45 : k0_chk45 v284), ∀ a x, ((![v284] : Fin 1 → IVec S16 32) a x).toNat < S2176.size a := fun v284 k0_hw45 => k0_hw45
def k0_off47 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c11_i32_118 : BitVec 32 := 11#32
  let v285 : BitVec 32 := Scalar.addi v59 c11_i32_118
  let v286 : Index := Scalar.indexCast v285
  let c16_119 : Index := 16#32
  ![v286.toNat, 16]

def k0_chk46 (v289 : IVec S16 32) : Prop :=
  (∀ a x, ((![v289] : Fin 1 → IVec S16 32) a x).toNat < S2176.size a)
theorem k0_idx46_inb : ∀ (v289 : IVec S16 32) (k0_hw46 : k0_chk46 v289), ∀ a x, ((![v289] : Fin 1 → IVec S16 32) a x).toNat < S2176.size a := fun v289 k0_hw46 => k0_hw46
def k0_off48 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c11_i32_120 : BitVec 32 := 11#32
  let v290 : BitVec 32 := Scalar.addi v59 c11_i32_120
  let v291 : Index := Scalar.indexCast v290
  let c32_121 : Index := 32#32
  ![v291.toNat, 32]

def k0_chk47 (v294 : IVec S16 32) : Prop :=
  (∀ a x, ((![v294] : Fin 1 → IVec S16 32) a x).toNat < S2176.size a)
theorem k0_idx47_inb : ∀ (v294 : IVec S16 32) (k0_hw47 : k0_chk47 v294), ∀ a x, ((![v294] : Fin 1 → IVec S16 32) a x).toNat < S2176.size a := fun v294 k0_hw47 => k0_hw47
def k0_off49 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c11_i32_122 : BitVec 32 := 11#32
  let v295 : BitVec 32 := Scalar.addi v59 c11_i32_122
  let v296 : Index := Scalar.indexCast v295
  let c48_123 : Index := 48#32
  ![v296.toNat, 48]

def k0_chk48 (v299 : IVec S16 32) : Prop :=
  (∀ a x, ((![v299] : Fin 1 → IVec S16 32) a x).toNat < S2176.size a)
theorem k0_idx48_inb : ∀ (v299 : IVec S16 32) (k0_hw48 : k0_chk48 v299), ∀ a x, ((![v299] : Fin 1 → IVec S16 32) a x).toNat < S2176.size a := fun v299 k0_hw48 => k0_hw48
def k0_off50 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c12_i32 : BitVec 32 := 12#32
  let v300 : BitVec 32 := Scalar.addi v59 c12_i32
  let v301 : Index := Scalar.indexCast v300
  let c0_124 : Index := 0#32
  ![v301.toNat, 0]

def k0_chk49 (v304 : IVec S16 32) : Prop :=
  (∀ a x, ((![v304] : Fin 1 → IVec S16 32) a x).toNat < S2176.size a)
theorem k0_idx49_inb : ∀ (v304 : IVec S16 32) (k0_hw49 : k0_chk49 v304), ∀ a x, ((![v304] : Fin 1 → IVec S16 32) a x).toNat < S2176.size a := fun v304 k0_hw49 => k0_hw49
def k0_off51 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c12_i32_126 : BitVec 32 := 12#32
  let v305 : BitVec 32 := Scalar.addi v59 c12_i32_126
  let v306 : Index := Scalar.indexCast v305
  let c16_127 : Index := 16#32
  ![v306.toNat, 16]

def k0_chk50 (v309 : IVec S16 32) : Prop :=
  (∀ a x, ((![v309] : Fin 1 → IVec S16 32) a x).toNat < S2176.size a)
theorem k0_idx50_inb : ∀ (v309 : IVec S16 32) (k0_hw50 : k0_chk50 v309), ∀ a x, ((![v309] : Fin 1 → IVec S16 32) a x).toNat < S2176.size a := fun v309 k0_hw50 => k0_hw50
def k0_off52 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c12_i32_128 : BitVec 32 := 12#32
  let v310 : BitVec 32 := Scalar.addi v59 c12_i32_128
  let v311 : Index := Scalar.indexCast v310
  let c32_129 : Index := 32#32
  ![v311.toNat, 32]

def k0_chk51 (v314 : IVec S16 32) : Prop :=
  (∀ a x, ((![v314] : Fin 1 → IVec S16 32) a x).toNat < S2176.size a)
theorem k0_idx51_inb : ∀ (v314 : IVec S16 32) (k0_hw51 : k0_chk51 v314), ∀ a x, ((![v314] : Fin 1 → IVec S16 32) a x).toNat < S2176.size a := fun v314 k0_hw51 => k0_hw51
def k0_off53 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c12_i32_130 : BitVec 32 := 12#32
  let v315 : BitVec 32 := Scalar.addi v59 c12_i32_130
  let v316 : Index := Scalar.indexCast v315
  let c48_131 : Index := 48#32
  ![v316.toNat, 48]

def k0_chk52 (v319 : IVec S16 32) : Prop :=
  (∀ a x, ((![v319] : Fin 1 → IVec S16 32) a x).toNat < S2176.size a)
theorem k0_idx52_inb : ∀ (v319 : IVec S16 32) (k0_hw52 : k0_chk52 v319), ∀ a x, ((![v319] : Fin 1 → IVec S16 32) a x).toNat < S2176.size a := fun v319 k0_hw52 => k0_hw52
def k0_off54 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c13_i32 : BitVec 32 := 13#32
  let v320 : BitVec 32 := Scalar.addi v59 c13_i32
  let v321 : Index := Scalar.indexCast v320
  let c0_132 : Index := 0#32
  ![v321.toNat, 0]

def k0_chk53 (v324 : IVec S16 32) : Prop :=
  (∀ a x, ((![v324] : Fin 1 → IVec S16 32) a x).toNat < S2176.size a)
theorem k0_idx53_inb : ∀ (v324 : IVec S16 32) (k0_hw53 : k0_chk53 v324), ∀ a x, ((![v324] : Fin 1 → IVec S16 32) a x).toNat < S2176.size a := fun v324 k0_hw53 => k0_hw53
def k0_off55 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c13_i32_134 : BitVec 32 := 13#32
  let v325 : BitVec 32 := Scalar.addi v59 c13_i32_134
  let v326 : Index := Scalar.indexCast v325
  let c16_135 : Index := 16#32
  ![v326.toNat, 16]

def k0_chk54 (v329 : IVec S16 32) : Prop :=
  (∀ a x, ((![v329] : Fin 1 → IVec S16 32) a x).toNat < S2176.size a)
theorem k0_idx54_inb : ∀ (v329 : IVec S16 32) (k0_hw54 : k0_chk54 v329), ∀ a x, ((![v329] : Fin 1 → IVec S16 32) a x).toNat < S2176.size a := fun v329 k0_hw54 => k0_hw54
def k0_off56 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c13_i32_136 : BitVec 32 := 13#32
  let v330 : BitVec 32 := Scalar.addi v59 c13_i32_136
  let v331 : Index := Scalar.indexCast v330
  let c32_137 : Index := 32#32
  ![v331.toNat, 32]

def k0_chk55 (v334 : IVec S16 32) : Prop :=
  (∀ a x, ((![v334] : Fin 1 → IVec S16 32) a x).toNat < S2176.size a)
theorem k0_idx55_inb : ∀ (v334 : IVec S16 32) (k0_hw55 : k0_chk55 v334), ∀ a x, ((![v334] : Fin 1 → IVec S16 32) a x).toNat < S2176.size a := fun v334 k0_hw55 => k0_hw55
def k0_off57 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c13_i32_138 : BitVec 32 := 13#32
  let v335 : BitVec 32 := Scalar.addi v59 c13_i32_138
  let v336 : Index := Scalar.indexCast v335
  let c48_139 : Index := 48#32
  ![v336.toNat, 48]

def k0_chk56 (v339 : IVec S16 32) : Prop :=
  (∀ a x, ((![v339] : Fin 1 → IVec S16 32) a x).toNat < S2176.size a)
theorem k0_idx56_inb : ∀ (v339 : IVec S16 32) (k0_hw56 : k0_chk56 v339), ∀ a x, ((![v339] : Fin 1 → IVec S16 32) a x).toNat < S2176.size a := fun v339 k0_hw56 => k0_hw56
def k0_off58 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c14_i32 : BitVec 32 := 14#32
  let v340 : BitVec 32 := Scalar.addi v59 c14_i32
  let v341 : Index := Scalar.indexCast v340
  let c0_140 : Index := 0#32
  ![v341.toNat, 0]

def k0_chk57 (v344 : IVec S16 32) : Prop :=
  (∀ a x, ((![v344] : Fin 1 → IVec S16 32) a x).toNat < S2176.size a)
theorem k0_idx57_inb : ∀ (v344 : IVec S16 32) (k0_hw57 : k0_chk57 v344), ∀ a x, ((![v344] : Fin 1 → IVec S16 32) a x).toNat < S2176.size a := fun v344 k0_hw57 => k0_hw57
def k0_off59 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c14_i32_142 : BitVec 32 := 14#32
  let v345 : BitVec 32 := Scalar.addi v59 c14_i32_142
  let v346 : Index := Scalar.indexCast v345
  let c16_143 : Index := 16#32
  ![v346.toNat, 16]

def k0_chk58 (v349 : IVec S16 32) : Prop :=
  (∀ a x, ((![v349] : Fin 1 → IVec S16 32) a x).toNat < S2176.size a)
theorem k0_idx58_inb : ∀ (v349 : IVec S16 32) (k0_hw58 : k0_chk58 v349), ∀ a x, ((![v349] : Fin 1 → IVec S16 32) a x).toNat < S2176.size a := fun v349 k0_hw58 => k0_hw58
def k0_off60 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c14_i32_144 : BitVec 32 := 14#32
  let v350 : BitVec 32 := Scalar.addi v59 c14_i32_144
  let v351 : Index := Scalar.indexCast v350
  let c32_145 : Index := 32#32
  ![v351.toNat, 32]

def k0_chk59 (v354 : IVec S16 32) : Prop :=
  (∀ a x, ((![v354] : Fin 1 → IVec S16 32) a x).toNat < S2176.size a)
theorem k0_idx59_inb : ∀ (v354 : IVec S16 32) (k0_hw59 : k0_chk59 v354), ∀ a x, ((![v354] : Fin 1 → IVec S16 32) a x).toNat < S2176.size a := fun v354 k0_hw59 => k0_hw59
def k0_off61 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c14_i32_146 : BitVec 32 := 14#32
  let v355 : BitVec 32 := Scalar.addi v59 c14_i32_146
  let v356 : Index := Scalar.indexCast v355
  let c48_147 : Index := 48#32
  ![v356.toNat, 48]

def k0_chk60 (v359 : IVec S16 32) : Prop :=
  (∀ a x, ((![v359] : Fin 1 → IVec S16 32) a x).toNat < S2176.size a)
theorem k0_idx60_inb : ∀ (v359 : IVec S16 32) (k0_hw60 : k0_chk60 v359), ∀ a x, ((![v359] : Fin 1 → IVec S16 32) a x).toNat < S2176.size a := fun v359 k0_hw60 => k0_hw60
def k0_off62 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c15_i32 : BitVec 32 := 15#32
  let v360 : BitVec 32 := Scalar.addi v59 c15_i32
  let v361 : Index := Scalar.indexCast v360
  let c0_148 : Index := 0#32
  ![v361.toNat, 0]

def k0_chk61 (v364 : IVec S16 32) : Prop :=
  (∀ a x, ((![v364] : Fin 1 → IVec S16 32) a x).toNat < S2176.size a)
theorem k0_idx61_inb : ∀ (v364 : IVec S16 32) (k0_hw61 : k0_chk61 v364), ∀ a x, ((![v364] : Fin 1 → IVec S16 32) a x).toNat < S2176.size a := fun v364 k0_hw61 => k0_hw61
def k0_off63 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c15_i32_150 : BitVec 32 := 15#32
  let v365 : BitVec 32 := Scalar.addi v59 c15_i32_150
  let v366 : Index := Scalar.indexCast v365
  let c16_151 : Index := 16#32
  ![v366.toNat, 16]

def k0_chk62 (v369 : IVec S16 32) : Prop :=
  (∀ a x, ((![v369] : Fin 1 → IVec S16 32) a x).toNat < S2176.size a)
theorem k0_idx62_inb : ∀ (v369 : IVec S16 32) (k0_hw62 : k0_chk62 v369), ∀ a x, ((![v369] : Fin 1 → IVec S16 32) a x).toNat < S2176.size a := fun v369 k0_hw62 => k0_hw62
def k0_off64 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c15_i32_152 : BitVec 32 := 15#32
  let v370 : BitVec 32 := Scalar.addi v59 c15_i32_152
  let v371 : Index := Scalar.indexCast v370
  let c32_153 : Index := 32#32
  ![v371.toNat, 32]

def k0_chk63 (v374 : IVec S16 32) : Prop :=
  (∀ a x, ((![v374] : Fin 1 → IVec S16 32) a x).toNat < S2176.size a)
theorem k0_idx63_inb : ∀ (v374 : IVec S16 32) (k0_hw63 : k0_chk63 v374), ∀ a x, ((![v374] : Fin 1 → IVec S16 32) a x).toNat < S2176.size a := fun v374 k0_hw63 => k0_hw63
def k0_off65 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_26 : BitVec 32 := 2#32
  let v58 : BitVec 32 := Scalar.muli arg10 c2_i32_26
  let c16_i32 : BitVec 32 := 16#32
  let v59 : BitVec 32 := Scalar.muli v58 c16_i32
  let c15_i32_154 : BitVec 32 := 15#32
  let v375 : BitVec 32 := Scalar.addi v59 c15_i32_154
  let v376 : Index := Scalar.indexCast v375
  let c48_155 : Index := 48#32
  ![v376.toNat, 48]

def k0_chk64 (v379 : IVec S16 32) : Prop :=
  (∀ a x, ((![v379] : Fin 1 → IVec S16 32) a x).toNat < S2176.size a)
theorem k0_idx64_inb : ∀ (v379 : IVec S16 32) (k0_hw64 : k0_chk64 v379), ∀ a x, ((![v379] : Fin 1 → IVec S16 32) a x).toNat < S2176.size a := fun v379 k0_hw64 => k0_hw64
def k0_off66 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c0_i32_159 : BitVec 32 := 0#32
  let v383 : BitVec 32 := Scalar.addi v382 c0_i32_159
  let v384 : Index := Scalar.indexCast v383
  let c0_160 : Index := 0#32
  ![v384.toNat, 0]

def k0_chk65 (v387 : IVec S16 32) : Prop :=
  (∀ a x, ((![v387] : Fin 1 → IVec S16 32) a x).toNat < S2176.size a)
theorem k0_idx65_inb : ∀ (v387 : IVec S16 32) (k0_hw65 : k0_chk65 v387), ∀ a x, ((![v387] : Fin 1 → IVec S16 32) a x).toNat < S2176.size a := fun v387 k0_hw65 => k0_hw65
def k0_off67 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c0_i32_161 : BitVec 32 := 0#32
  let v388 : BitVec 32 := Scalar.addi v382 c0_i32_161
  let v389 : Index := Scalar.indexCast v388
  let c16_162 : Index := 16#32
  ![v389.toNat, 16]

def k0_chk66 (v392 : IVec S16 32) : Prop :=
  (∀ a x, ((![v392] : Fin 1 → IVec S16 32) a x).toNat < S2176.size a)
theorem k0_idx66_inb : ∀ (v392 : IVec S16 32) (k0_hw66 : k0_chk66 v392), ∀ a x, ((![v392] : Fin 1 → IVec S16 32) a x).toNat < S2176.size a := fun v392 k0_hw66 => k0_hw66
def k0_off68 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c0_i32_163 : BitVec 32 := 0#32
  let v393 : BitVec 32 := Scalar.addi v382 c0_i32_163
  let v394 : Index := Scalar.indexCast v393
  let c32_164 : Index := 32#32
  ![v394.toNat, 32]

def k0_chk67 (v397 : IVec S16 32) : Prop :=
  (∀ a x, ((![v397] : Fin 1 → IVec S16 32) a x).toNat < S2176.size a)
theorem k0_idx67_inb : ∀ (v397 : IVec S16 32) (k0_hw67 : k0_chk67 v397), ∀ a x, ((![v397] : Fin 1 → IVec S16 32) a x).toNat < S2176.size a := fun v397 k0_hw67 => k0_hw67
def k0_off69 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c0_i32_165 : BitVec 32 := 0#32
  let v398 : BitVec 32 := Scalar.addi v382 c0_i32_165
  let v399 : Index := Scalar.indexCast v398
  let c48_166 : Index := 48#32
  ![v399.toNat, 48]

def k0_chk68 (v402 : IVec S16 32) : Prop :=
  (∀ a x, ((![v402] : Fin 1 → IVec S16 32) a x).toNat < S2176.size a)
theorem k0_idx68_inb : ∀ (v402 : IVec S16 32) (k0_hw68 : k0_chk68 v402), ∀ a x, ((![v402] : Fin 1 → IVec S16 32) a x).toNat < S2176.size a := fun v402 k0_hw68 => k0_hw68
def k0_off70 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c1_i32_167 : BitVec 32 := 1#32
  let v403 : BitVec 32 := Scalar.addi v382 c1_i32_167
  let v404 : Index := Scalar.indexCast v403
  let c0_168 : Index := 0#32
  ![v404.toNat, 0]

def k0_chk69 (v407 : IVec S16 32) : Prop :=
  (∀ a x, ((![v407] : Fin 1 → IVec S16 32) a x).toNat < S2176.size a)
theorem k0_idx69_inb : ∀ (v407 : IVec S16 32) (k0_hw69 : k0_chk69 v407), ∀ a x, ((![v407] : Fin 1 → IVec S16 32) a x).toNat < S2176.size a := fun v407 k0_hw69 => k0_hw69
def k0_off71 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c1_i32_169 : BitVec 32 := 1#32
  let v408 : BitVec 32 := Scalar.addi v382 c1_i32_169
  let v409 : Index := Scalar.indexCast v408
  let c16_170 : Index := 16#32
  ![v409.toNat, 16]

def k0_chk70 (v412 : IVec S16 32) : Prop :=
  (∀ a x, ((![v412] : Fin 1 → IVec S16 32) a x).toNat < S2176.size a)
theorem k0_idx70_inb : ∀ (v412 : IVec S16 32) (k0_hw70 : k0_chk70 v412), ∀ a x, ((![v412] : Fin 1 → IVec S16 32) a x).toNat < S2176.size a := fun v412 k0_hw70 => k0_hw70
def k0_off72 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c1_i32_171 : BitVec 32 := 1#32
  let v413 : BitVec 32 := Scalar.addi v382 c1_i32_171
  let v414 : Index := Scalar.indexCast v413
  let c32_172 : Index := 32#32
  ![v414.toNat, 32]

def k0_chk71 (v417 : IVec S16 32) : Prop :=
  (∀ a x, ((![v417] : Fin 1 → IVec S16 32) a x).toNat < S2176.size a)
theorem k0_idx71_inb : ∀ (v417 : IVec S16 32) (k0_hw71 : k0_chk71 v417), ∀ a x, ((![v417] : Fin 1 → IVec S16 32) a x).toNat < S2176.size a := fun v417 k0_hw71 => k0_hw71
def k0_off73 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c1_i32_173 : BitVec 32 := 1#32
  let v418 : BitVec 32 := Scalar.addi v382 c1_i32_173
  let v419 : Index := Scalar.indexCast v418
  let c48_174 : Index := 48#32
  ![v419.toNat, 48]

def k0_chk72 (v422 : IVec S16 32) : Prop :=
  (∀ a x, ((![v422] : Fin 1 → IVec S16 32) a x).toNat < S2176.size a)
theorem k0_idx72_inb : ∀ (v422 : IVec S16 32) (k0_hw72 : k0_chk72 v422), ∀ a x, ((![v422] : Fin 1 → IVec S16 32) a x).toNat < S2176.size a := fun v422 k0_hw72 => k0_hw72
def k0_off74 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c2_i32_175 : BitVec 32 := 2#32
  let v423 : BitVec 32 := Scalar.addi v382 c2_i32_175
  let v424 : Index := Scalar.indexCast v423
  let c0_176 : Index := 0#32
  ![v424.toNat, 0]

def k0_chk73 (v427 : IVec S16 32) : Prop :=
  (∀ a x, ((![v427] : Fin 1 → IVec S16 32) a x).toNat < S2176.size a)
theorem k0_idx73_inb : ∀ (v427 : IVec S16 32) (k0_hw73 : k0_chk73 v427), ∀ a x, ((![v427] : Fin 1 → IVec S16 32) a x).toNat < S2176.size a := fun v427 k0_hw73 => k0_hw73
def k0_off75 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c2_i32_177 : BitVec 32 := 2#32
  let v428 : BitVec 32 := Scalar.addi v382 c2_i32_177
  let v429 : Index := Scalar.indexCast v428
  let c16_178 : Index := 16#32
  ![v429.toNat, 16]

def k0_chk74 (v432 : IVec S16 32) : Prop :=
  (∀ a x, ((![v432] : Fin 1 → IVec S16 32) a x).toNat < S2176.size a)
theorem k0_idx74_inb : ∀ (v432 : IVec S16 32) (k0_hw74 : k0_chk74 v432), ∀ a x, ((![v432] : Fin 1 → IVec S16 32) a x).toNat < S2176.size a := fun v432 k0_hw74 => k0_hw74
def k0_off76 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c2_i32_179 : BitVec 32 := 2#32
  let v433 : BitVec 32 := Scalar.addi v382 c2_i32_179
  let v434 : Index := Scalar.indexCast v433
  let c32_180 : Index := 32#32
  ![v434.toNat, 32]

def k0_chk75 (v437 : IVec S16 32) : Prop :=
  (∀ a x, ((![v437] : Fin 1 → IVec S16 32) a x).toNat < S2176.size a)
theorem k0_idx75_inb : ∀ (v437 : IVec S16 32) (k0_hw75 : k0_chk75 v437), ∀ a x, ((![v437] : Fin 1 → IVec S16 32) a x).toNat < S2176.size a := fun v437 k0_hw75 => k0_hw75
def k0_off77 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c2_i32_181 : BitVec 32 := 2#32
  let v438 : BitVec 32 := Scalar.addi v382 c2_i32_181
  let v439 : Index := Scalar.indexCast v438
  let c48_182 : Index := 48#32
  ![v439.toNat, 48]

def k0_chk76 (v442 : IVec S16 32) : Prop :=
  (∀ a x, ((![v442] : Fin 1 → IVec S16 32) a x).toNat < S2176.size a)
theorem k0_idx76_inb : ∀ (v442 : IVec S16 32) (k0_hw76 : k0_chk76 v442), ∀ a x, ((![v442] : Fin 1 → IVec S16 32) a x).toNat < S2176.size a := fun v442 k0_hw76 => k0_hw76
def k0_off78 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c3_i32_183 : BitVec 32 := 3#32
  let v443 : BitVec 32 := Scalar.addi v382 c3_i32_183
  let v444 : Index := Scalar.indexCast v443
  let c0_184 : Index := 0#32
  ![v444.toNat, 0]

def k0_chk77 (v447 : IVec S16 32) : Prop :=
  (∀ a x, ((![v447] : Fin 1 → IVec S16 32) a x).toNat < S2176.size a)
theorem k0_idx77_inb : ∀ (v447 : IVec S16 32) (k0_hw77 : k0_chk77 v447), ∀ a x, ((![v447] : Fin 1 → IVec S16 32) a x).toNat < S2176.size a := fun v447 k0_hw77 => k0_hw77
def k0_off79 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c3_i32_185 : BitVec 32 := 3#32
  let v448 : BitVec 32 := Scalar.addi v382 c3_i32_185
  let v449 : Index := Scalar.indexCast v448
  let c16_186 : Index := 16#32
  ![v449.toNat, 16]

def k0_chk78 (v452 : IVec S16 32) : Prop :=
  (∀ a x, ((![v452] : Fin 1 → IVec S16 32) a x).toNat < S2176.size a)
theorem k0_idx78_inb : ∀ (v452 : IVec S16 32) (k0_hw78 : k0_chk78 v452), ∀ a x, ((![v452] : Fin 1 → IVec S16 32) a x).toNat < S2176.size a := fun v452 k0_hw78 => k0_hw78
def k0_off80 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c3_i32_187 : BitVec 32 := 3#32
  let v453 : BitVec 32 := Scalar.addi v382 c3_i32_187
  let v454 : Index := Scalar.indexCast v453
  let c32_188 : Index := 32#32
  ![v454.toNat, 32]

def k0_chk79 (v457 : IVec S16 32) : Prop :=
  (∀ a x, ((![v457] : Fin 1 → IVec S16 32) a x).toNat < S2176.size a)
theorem k0_idx79_inb : ∀ (v457 : IVec S16 32) (k0_hw79 : k0_chk79 v457), ∀ a x, ((![v457] : Fin 1 → IVec S16 32) a x).toNat < S2176.size a := fun v457 k0_hw79 => k0_hw79
def k0_off81 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c3_i32_189 : BitVec 32 := 3#32
  let v458 : BitVec 32 := Scalar.addi v382 c3_i32_189
  let v459 : Index := Scalar.indexCast v458
  let c48_190 : Index := 48#32
  ![v459.toNat, 48]

def k0_chk80 (v462 : IVec S16 32) : Prop :=
  (∀ a x, ((![v462] : Fin 1 → IVec S16 32) a x).toNat < S2176.size a)
theorem k0_idx80_inb : ∀ (v462 : IVec S16 32) (k0_hw80 : k0_chk80 v462), ∀ a x, ((![v462] : Fin 1 → IVec S16 32) a x).toNat < S2176.size a := fun v462 k0_hw80 => k0_hw80
def k0_off82 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c4_i32_191 : BitVec 32 := 4#32
  let v463 : BitVec 32 := Scalar.addi v382 c4_i32_191
  let v464 : Index := Scalar.indexCast v463
  let c0_192 : Index := 0#32
  ![v464.toNat, 0]

def k0_chk81 (v467 : IVec S16 32) : Prop :=
  (∀ a x, ((![v467] : Fin 1 → IVec S16 32) a x).toNat < S2176.size a)
theorem k0_idx81_inb : ∀ (v467 : IVec S16 32) (k0_hw81 : k0_chk81 v467), ∀ a x, ((![v467] : Fin 1 → IVec S16 32) a x).toNat < S2176.size a := fun v467 k0_hw81 => k0_hw81
def k0_off83 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c4_i32_193 : BitVec 32 := 4#32
  let v468 : BitVec 32 := Scalar.addi v382 c4_i32_193
  let v469 : Index := Scalar.indexCast v468
  let c16_194 : Index := 16#32
  ![v469.toNat, 16]

def k0_chk82 (v472 : IVec S16 32) : Prop :=
  (∀ a x, ((![v472] : Fin 1 → IVec S16 32) a x).toNat < S2176.size a)
theorem k0_idx82_inb : ∀ (v472 : IVec S16 32) (k0_hw82 : k0_chk82 v472), ∀ a x, ((![v472] : Fin 1 → IVec S16 32) a x).toNat < S2176.size a := fun v472 k0_hw82 => k0_hw82
def k0_off84 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c4_i32_195 : BitVec 32 := 4#32
  let v473 : BitVec 32 := Scalar.addi v382 c4_i32_195
  let v474 : Index := Scalar.indexCast v473
  let c32_196 : Index := 32#32
  ![v474.toNat, 32]

def k0_chk83 (v477 : IVec S16 32) : Prop :=
  (∀ a x, ((![v477] : Fin 1 → IVec S16 32) a x).toNat < S2176.size a)
theorem k0_idx83_inb : ∀ (v477 : IVec S16 32) (k0_hw83 : k0_chk83 v477), ∀ a x, ((![v477] : Fin 1 → IVec S16 32) a x).toNat < S2176.size a := fun v477 k0_hw83 => k0_hw83
def k0_off85 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c4_i32_197 : BitVec 32 := 4#32
  let v478 : BitVec 32 := Scalar.addi v382 c4_i32_197
  let v479 : Index := Scalar.indexCast v478
  let c48_198 : Index := 48#32
  ![v479.toNat, 48]

def k0_chk84 (v482 : IVec S16 32) : Prop :=
  (∀ a x, ((![v482] : Fin 1 → IVec S16 32) a x).toNat < S2176.size a)
theorem k0_idx84_inb : ∀ (v482 : IVec S16 32) (k0_hw84 : k0_chk84 v482), ∀ a x, ((![v482] : Fin 1 → IVec S16 32) a x).toNat < S2176.size a := fun v482 k0_hw84 => k0_hw84
def k0_off86 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c5_i32_199 : BitVec 32 := 5#32
  let v483 : BitVec 32 := Scalar.addi v382 c5_i32_199
  let v484 : Index := Scalar.indexCast v483
  let c0_200 : Index := 0#32
  ![v484.toNat, 0]

def k0_chk85 (v487 : IVec S16 32) : Prop :=
  (∀ a x, ((![v487] : Fin 1 → IVec S16 32) a x).toNat < S2176.size a)
theorem k0_idx85_inb : ∀ (v487 : IVec S16 32) (k0_hw85 : k0_chk85 v487), ∀ a x, ((![v487] : Fin 1 → IVec S16 32) a x).toNat < S2176.size a := fun v487 k0_hw85 => k0_hw85
def k0_off87 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c5_i32_201 : BitVec 32 := 5#32
  let v488 : BitVec 32 := Scalar.addi v382 c5_i32_201
  let v489 : Index := Scalar.indexCast v488
  let c16_202 : Index := 16#32
  ![v489.toNat, 16]

def k0_chk86 (v492 : IVec S16 32) : Prop :=
  (∀ a x, ((![v492] : Fin 1 → IVec S16 32) a x).toNat < S2176.size a)
theorem k0_idx86_inb : ∀ (v492 : IVec S16 32) (k0_hw86 : k0_chk86 v492), ∀ a x, ((![v492] : Fin 1 → IVec S16 32) a x).toNat < S2176.size a := fun v492 k0_hw86 => k0_hw86
def k0_off88 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c5_i32_203 : BitVec 32 := 5#32
  let v493 : BitVec 32 := Scalar.addi v382 c5_i32_203
  let v494 : Index := Scalar.indexCast v493
  let c32_204 : Index := 32#32
  ![v494.toNat, 32]

def k0_chk87 (v497 : IVec S16 32) : Prop :=
  (∀ a x, ((![v497] : Fin 1 → IVec S16 32) a x).toNat < S2176.size a)
theorem k0_idx87_inb : ∀ (v497 : IVec S16 32) (k0_hw87 : k0_chk87 v497), ∀ a x, ((![v497] : Fin 1 → IVec S16 32) a x).toNat < S2176.size a := fun v497 k0_hw87 => k0_hw87
def k0_off89 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c5_i32_205 : BitVec 32 := 5#32
  let v498 : BitVec 32 := Scalar.addi v382 c5_i32_205
  let v499 : Index := Scalar.indexCast v498
  let c48_206 : Index := 48#32
  ![v499.toNat, 48]

def k0_chk88 (v502 : IVec S16 32) : Prop :=
  (∀ a x, ((![v502] : Fin 1 → IVec S16 32) a x).toNat < S2176.size a)
theorem k0_idx88_inb : ∀ (v502 : IVec S16 32) (k0_hw88 : k0_chk88 v502), ∀ a x, ((![v502] : Fin 1 → IVec S16 32) a x).toNat < S2176.size a := fun v502 k0_hw88 => k0_hw88
def k0_off90 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c6_i32_207 : BitVec 32 := 6#32
  let v503 : BitVec 32 := Scalar.addi v382 c6_i32_207
  let v504 : Index := Scalar.indexCast v503
  let c0_208 : Index := 0#32
  ![v504.toNat, 0]

def k0_chk89 (v507 : IVec S16 32) : Prop :=
  (∀ a x, ((![v507] : Fin 1 → IVec S16 32) a x).toNat < S2176.size a)
theorem k0_idx89_inb : ∀ (v507 : IVec S16 32) (k0_hw89 : k0_chk89 v507), ∀ a x, ((![v507] : Fin 1 → IVec S16 32) a x).toNat < S2176.size a := fun v507 k0_hw89 => k0_hw89
def k0_off91 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c6_i32_209 : BitVec 32 := 6#32
  let v508 : BitVec 32 := Scalar.addi v382 c6_i32_209
  let v509 : Index := Scalar.indexCast v508
  let c16_210 : Index := 16#32
  ![v509.toNat, 16]

def k0_chk90 (v512 : IVec S16 32) : Prop :=
  (∀ a x, ((![v512] : Fin 1 → IVec S16 32) a x).toNat < S2176.size a)
theorem k0_idx90_inb : ∀ (v512 : IVec S16 32) (k0_hw90 : k0_chk90 v512), ∀ a x, ((![v512] : Fin 1 → IVec S16 32) a x).toNat < S2176.size a := fun v512 k0_hw90 => k0_hw90
def k0_off92 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c6_i32_211 : BitVec 32 := 6#32
  let v513 : BitVec 32 := Scalar.addi v382 c6_i32_211
  let v514 : Index := Scalar.indexCast v513
  let c32_212 : Index := 32#32
  ![v514.toNat, 32]

def k0_chk91 (v517 : IVec S16 32) : Prop :=
  (∀ a x, ((![v517] : Fin 1 → IVec S16 32) a x).toNat < S2176.size a)
theorem k0_idx91_inb : ∀ (v517 : IVec S16 32) (k0_hw91 : k0_chk91 v517), ∀ a x, ((![v517] : Fin 1 → IVec S16 32) a x).toNat < S2176.size a := fun v517 k0_hw91 => k0_hw91
def k0_off93 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c6_i32_213 : BitVec 32 := 6#32
  let v518 : BitVec 32 := Scalar.addi v382 c6_i32_213
  let v519 : Index := Scalar.indexCast v518
  let c48_214 : Index := 48#32
  ![v519.toNat, 48]

def k0_chk92 (v522 : IVec S16 32) : Prop :=
  (∀ a x, ((![v522] : Fin 1 → IVec S16 32) a x).toNat < S2176.size a)
theorem k0_idx92_inb : ∀ (v522 : IVec S16 32) (k0_hw92 : k0_chk92 v522), ∀ a x, ((![v522] : Fin 1 → IVec S16 32) a x).toNat < S2176.size a := fun v522 k0_hw92 => k0_hw92
def k0_off94 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c7_i32_215 : BitVec 32 := 7#32
  let v523 : BitVec 32 := Scalar.addi v382 c7_i32_215
  let v524 : Index := Scalar.indexCast v523
  let c0_216 : Index := 0#32
  ![v524.toNat, 0]

def k0_chk93 (v527 : IVec S16 32) : Prop :=
  (∀ a x, ((![v527] : Fin 1 → IVec S16 32) a x).toNat < S2176.size a)
theorem k0_idx93_inb : ∀ (v527 : IVec S16 32) (k0_hw93 : k0_chk93 v527), ∀ a x, ((![v527] : Fin 1 → IVec S16 32) a x).toNat < S2176.size a := fun v527 k0_hw93 => k0_hw93
def k0_off95 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c7_i32_217 : BitVec 32 := 7#32
  let v528 : BitVec 32 := Scalar.addi v382 c7_i32_217
  let v529 : Index := Scalar.indexCast v528
  let c16_218 : Index := 16#32
  ![v529.toNat, 16]

def k0_chk94 (v532 : IVec S16 32) : Prop :=
  (∀ a x, ((![v532] : Fin 1 → IVec S16 32) a x).toNat < S2176.size a)
theorem k0_idx94_inb : ∀ (v532 : IVec S16 32) (k0_hw94 : k0_chk94 v532), ∀ a x, ((![v532] : Fin 1 → IVec S16 32) a x).toNat < S2176.size a := fun v532 k0_hw94 => k0_hw94
def k0_off96 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c7_i32_219 : BitVec 32 := 7#32
  let v533 : BitVec 32 := Scalar.addi v382 c7_i32_219
  let v534 : Index := Scalar.indexCast v533
  let c32_220 : Index := 32#32
  ![v534.toNat, 32]

def k0_chk95 (v537 : IVec S16 32) : Prop :=
  (∀ a x, ((![v537] : Fin 1 → IVec S16 32) a x).toNat < S2176.size a)
theorem k0_idx95_inb : ∀ (v537 : IVec S16 32) (k0_hw95 : k0_chk95 v537), ∀ a x, ((![v537] : Fin 1 → IVec S16 32) a x).toNat < S2176.size a := fun v537 k0_hw95 => k0_hw95
def k0_off97 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c7_i32_221 : BitVec 32 := 7#32
  let v538 : BitVec 32 := Scalar.addi v382 c7_i32_221
  let v539 : Index := Scalar.indexCast v538
  let c48_222 : Index := 48#32
  ![v539.toNat, 48]

def k0_chk96 (v542 : IVec S16 32) : Prop :=
  (∀ a x, ((![v542] : Fin 1 → IVec S16 32) a x).toNat < S2176.size a)
theorem k0_idx96_inb : ∀ (v542 : IVec S16 32) (k0_hw96 : k0_chk96 v542), ∀ a x, ((![v542] : Fin 1 → IVec S16 32) a x).toNat < S2176.size a := fun v542 k0_hw96 => k0_hw96
def k0_off98 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c8_i32_223 : BitVec 32 := 8#32
  let v543 : BitVec 32 := Scalar.addi v382 c8_i32_223
  let v544 : Index := Scalar.indexCast v543
  let c0_224 : Index := 0#32
  ![v544.toNat, 0]

def k0_chk97 (v547 : IVec S16 32) : Prop :=
  (∀ a x, ((![v547] : Fin 1 → IVec S16 32) a x).toNat < S2176.size a)
theorem k0_idx97_inb : ∀ (v547 : IVec S16 32) (k0_hw97 : k0_chk97 v547), ∀ a x, ((![v547] : Fin 1 → IVec S16 32) a x).toNat < S2176.size a := fun v547 k0_hw97 => k0_hw97
def k0_off99 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c8_i32_225 : BitVec 32 := 8#32
  let v548 : BitVec 32 := Scalar.addi v382 c8_i32_225
  let v549 : Index := Scalar.indexCast v548
  let c16_226 : Index := 16#32
  ![v549.toNat, 16]

def k0_chk98 (v552 : IVec S16 32) : Prop :=
  (∀ a x, ((![v552] : Fin 1 → IVec S16 32) a x).toNat < S2176.size a)
theorem k0_idx98_inb : ∀ (v552 : IVec S16 32) (k0_hw98 : k0_chk98 v552), ∀ a x, ((![v552] : Fin 1 → IVec S16 32) a x).toNat < S2176.size a := fun v552 k0_hw98 => k0_hw98
def k0_off100 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c8_i32_227 : BitVec 32 := 8#32
  let v553 : BitVec 32 := Scalar.addi v382 c8_i32_227
  let v554 : Index := Scalar.indexCast v553
  let c32_228 : Index := 32#32
  ![v554.toNat, 32]

def k0_chk99 (v557 : IVec S16 32) : Prop :=
  (∀ a x, ((![v557] : Fin 1 → IVec S16 32) a x).toNat < S2176.size a)
theorem k0_idx99_inb : ∀ (v557 : IVec S16 32) (k0_hw99 : k0_chk99 v557), ∀ a x, ((![v557] : Fin 1 → IVec S16 32) a x).toNat < S2176.size a := fun v557 k0_hw99 => k0_hw99
def k0_off101 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c8_i32_229 : BitVec 32 := 8#32
  let v558 : BitVec 32 := Scalar.addi v382 c8_i32_229
  let v559 : Index := Scalar.indexCast v558
  let c48_230 : Index := 48#32
  ![v559.toNat, 48]

def k0_chk100 (v562 : IVec S16 32) : Prop :=
  (∀ a x, ((![v562] : Fin 1 → IVec S16 32) a x).toNat < S2176.size a)
theorem k0_idx100_inb : ∀ (v562 : IVec S16 32) (k0_hw100 : k0_chk100 v562), ∀ a x, ((![v562] : Fin 1 → IVec S16 32) a x).toNat < S2176.size a := fun v562 k0_hw100 => k0_hw100
def k0_off102 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c9_i32_231 : BitVec 32 := 9#32
  let v563 : BitVec 32 := Scalar.addi v382 c9_i32_231
  let v564 : Index := Scalar.indexCast v563
  let c0_232 : Index := 0#32
  ![v564.toNat, 0]

def k0_chk101 (v567 : IVec S16 32) : Prop :=
  (∀ a x, ((![v567] : Fin 1 → IVec S16 32) a x).toNat < S2176.size a)
theorem k0_idx101_inb : ∀ (v567 : IVec S16 32) (k0_hw101 : k0_chk101 v567), ∀ a x, ((![v567] : Fin 1 → IVec S16 32) a x).toNat < S2176.size a := fun v567 k0_hw101 => k0_hw101
def k0_off103 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c9_i32_233 : BitVec 32 := 9#32
  let v568 : BitVec 32 := Scalar.addi v382 c9_i32_233
  let v569 : Index := Scalar.indexCast v568
  let c16_234 : Index := 16#32
  ![v569.toNat, 16]

def k0_chk102 (v572 : IVec S16 32) : Prop :=
  (∀ a x, ((![v572] : Fin 1 → IVec S16 32) a x).toNat < S2176.size a)
theorem k0_idx102_inb : ∀ (v572 : IVec S16 32) (k0_hw102 : k0_chk102 v572), ∀ a x, ((![v572] : Fin 1 → IVec S16 32) a x).toNat < S2176.size a := fun v572 k0_hw102 => k0_hw102
def k0_off104 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c9_i32_235 : BitVec 32 := 9#32
  let v573 : BitVec 32 := Scalar.addi v382 c9_i32_235
  let v574 : Index := Scalar.indexCast v573
  let c32_236 : Index := 32#32
  ![v574.toNat, 32]

def k0_chk103 (v577 : IVec S16 32) : Prop :=
  (∀ a x, ((![v577] : Fin 1 → IVec S16 32) a x).toNat < S2176.size a)
theorem k0_idx103_inb : ∀ (v577 : IVec S16 32) (k0_hw103 : k0_chk103 v577), ∀ a x, ((![v577] : Fin 1 → IVec S16 32) a x).toNat < S2176.size a := fun v577 k0_hw103 => k0_hw103
def k0_off105 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c9_i32_237 : BitVec 32 := 9#32
  let v578 : BitVec 32 := Scalar.addi v382 c9_i32_237
  let v579 : Index := Scalar.indexCast v578
  let c48_238 : Index := 48#32
  ![v579.toNat, 48]

def k0_chk104 (v582 : IVec S16 32) : Prop :=
  (∀ a x, ((![v582] : Fin 1 → IVec S16 32) a x).toNat < S2176.size a)
theorem k0_idx104_inb : ∀ (v582 : IVec S16 32) (k0_hw104 : k0_chk104 v582), ∀ a x, ((![v582] : Fin 1 → IVec S16 32) a x).toNat < S2176.size a := fun v582 k0_hw104 => k0_hw104
def k0_off106 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c10_i32_239 : BitVec 32 := 10#32
  let v583 : BitVec 32 := Scalar.addi v382 c10_i32_239
  let v584 : Index := Scalar.indexCast v583
  let c0_240 : Index := 0#32
  ![v584.toNat, 0]

def k0_chk105 (v587 : IVec S16 32) : Prop :=
  (∀ a x, ((![v587] : Fin 1 → IVec S16 32) a x).toNat < S2176.size a)
theorem k0_idx105_inb : ∀ (v587 : IVec S16 32) (k0_hw105 : k0_chk105 v587), ∀ a x, ((![v587] : Fin 1 → IVec S16 32) a x).toNat < S2176.size a := fun v587 k0_hw105 => k0_hw105
def k0_off107 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c10_i32_241 : BitVec 32 := 10#32
  let v588 : BitVec 32 := Scalar.addi v382 c10_i32_241
  let v589 : Index := Scalar.indexCast v588
  let c16_242 : Index := 16#32
  ![v589.toNat, 16]

def k0_chk106 (v592 : IVec S16 32) : Prop :=
  (∀ a x, ((![v592] : Fin 1 → IVec S16 32) a x).toNat < S2176.size a)
theorem k0_idx106_inb : ∀ (v592 : IVec S16 32) (k0_hw106 : k0_chk106 v592), ∀ a x, ((![v592] : Fin 1 → IVec S16 32) a x).toNat < S2176.size a := fun v592 k0_hw106 => k0_hw106
def k0_off108 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c10_i32_243 : BitVec 32 := 10#32
  let v593 : BitVec 32 := Scalar.addi v382 c10_i32_243
  let v594 : Index := Scalar.indexCast v593
  let c32_244 : Index := 32#32
  ![v594.toNat, 32]

def k0_chk107 (v597 : IVec S16 32) : Prop :=
  (∀ a x, ((![v597] : Fin 1 → IVec S16 32) a x).toNat < S2176.size a)
theorem k0_idx107_inb : ∀ (v597 : IVec S16 32) (k0_hw107 : k0_chk107 v597), ∀ a x, ((![v597] : Fin 1 → IVec S16 32) a x).toNat < S2176.size a := fun v597 k0_hw107 => k0_hw107
def k0_off109 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c10_i32_245 : BitVec 32 := 10#32
  let v598 : BitVec 32 := Scalar.addi v382 c10_i32_245
  let v599 : Index := Scalar.indexCast v598
  let c48_246 : Index := 48#32
  ![v599.toNat, 48]

def k0_chk108 (v602 : IVec S16 32) : Prop :=
  (∀ a x, ((![v602] : Fin 1 → IVec S16 32) a x).toNat < S2176.size a)
theorem k0_idx108_inb : ∀ (v602 : IVec S16 32) (k0_hw108 : k0_chk108 v602), ∀ a x, ((![v602] : Fin 1 → IVec S16 32) a x).toNat < S2176.size a := fun v602 k0_hw108 => k0_hw108
def k0_off110 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c11_i32_247 : BitVec 32 := 11#32
  let v603 : BitVec 32 := Scalar.addi v382 c11_i32_247
  let v604 : Index := Scalar.indexCast v603
  let c0_248 : Index := 0#32
  ![v604.toNat, 0]

def k0_chk109 (v607 : IVec S16 32) : Prop :=
  (∀ a x, ((![v607] : Fin 1 → IVec S16 32) a x).toNat < S2176.size a)
theorem k0_idx109_inb : ∀ (v607 : IVec S16 32) (k0_hw109 : k0_chk109 v607), ∀ a x, ((![v607] : Fin 1 → IVec S16 32) a x).toNat < S2176.size a := fun v607 k0_hw109 => k0_hw109
def k0_off111 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c11_i32_249 : BitVec 32 := 11#32
  let v608 : BitVec 32 := Scalar.addi v382 c11_i32_249
  let v609 : Index := Scalar.indexCast v608
  let c16_250 : Index := 16#32
  ![v609.toNat, 16]

def k0_chk110 (v612 : IVec S16 32) : Prop :=
  (∀ a x, ((![v612] : Fin 1 → IVec S16 32) a x).toNat < S2176.size a)
theorem k0_idx110_inb : ∀ (v612 : IVec S16 32) (k0_hw110 : k0_chk110 v612), ∀ a x, ((![v612] : Fin 1 → IVec S16 32) a x).toNat < S2176.size a := fun v612 k0_hw110 => k0_hw110
def k0_off112 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c11_i32_251 : BitVec 32 := 11#32
  let v613 : BitVec 32 := Scalar.addi v382 c11_i32_251
  let v614 : Index := Scalar.indexCast v613
  let c32_252 : Index := 32#32
  ![v614.toNat, 32]

def k0_chk111 (v617 : IVec S16 32) : Prop :=
  (∀ a x, ((![v617] : Fin 1 → IVec S16 32) a x).toNat < S2176.size a)
theorem k0_idx111_inb : ∀ (v617 : IVec S16 32) (k0_hw111 : k0_chk111 v617), ∀ a x, ((![v617] : Fin 1 → IVec S16 32) a x).toNat < S2176.size a := fun v617 k0_hw111 => k0_hw111
def k0_off113 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c11_i32_253 : BitVec 32 := 11#32
  let v618 : BitVec 32 := Scalar.addi v382 c11_i32_253
  let v619 : Index := Scalar.indexCast v618
  let c48_254 : Index := 48#32
  ![v619.toNat, 48]

def k0_chk112 (v622 : IVec S16 32) : Prop :=
  (∀ a x, ((![v622] : Fin 1 → IVec S16 32) a x).toNat < S2176.size a)
theorem k0_idx112_inb : ∀ (v622 : IVec S16 32) (k0_hw112 : k0_chk112 v622), ∀ a x, ((![v622] : Fin 1 → IVec S16 32) a x).toNat < S2176.size a := fun v622 k0_hw112 => k0_hw112
def k0_off114 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c12_i32_255 : BitVec 32 := 12#32
  let v623 : BitVec 32 := Scalar.addi v382 c12_i32_255
  let v624 : Index := Scalar.indexCast v623
  let c0_256 : Index := 0#32
  ![v624.toNat, 0]

def k0_chk113 (v627 : IVec S16 32) : Prop :=
  (∀ a x, ((![v627] : Fin 1 → IVec S16 32) a x).toNat < S2176.size a)
theorem k0_idx113_inb : ∀ (v627 : IVec S16 32) (k0_hw113 : k0_chk113 v627), ∀ a x, ((![v627] : Fin 1 → IVec S16 32) a x).toNat < S2176.size a := fun v627 k0_hw113 => k0_hw113
def k0_off115 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c12_i32_257 : BitVec 32 := 12#32
  let v628 : BitVec 32 := Scalar.addi v382 c12_i32_257
  let v629 : Index := Scalar.indexCast v628
  let c16_258 : Index := 16#32
  ![v629.toNat, 16]

def k0_chk114 (v632 : IVec S16 32) : Prop :=
  (∀ a x, ((![v632] : Fin 1 → IVec S16 32) a x).toNat < S2176.size a)
theorem k0_idx114_inb : ∀ (v632 : IVec S16 32) (k0_hw114 : k0_chk114 v632), ∀ a x, ((![v632] : Fin 1 → IVec S16 32) a x).toNat < S2176.size a := fun v632 k0_hw114 => k0_hw114
def k0_off116 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c12_i32_259 : BitVec 32 := 12#32
  let v633 : BitVec 32 := Scalar.addi v382 c12_i32_259
  let v634 : Index := Scalar.indexCast v633
  let c32_260 : Index := 32#32
  ![v634.toNat, 32]

def k0_chk115 (v637 : IVec S16 32) : Prop :=
  (∀ a x, ((![v637] : Fin 1 → IVec S16 32) a x).toNat < S2176.size a)
theorem k0_idx115_inb : ∀ (v637 : IVec S16 32) (k0_hw115 : k0_chk115 v637), ∀ a x, ((![v637] : Fin 1 → IVec S16 32) a x).toNat < S2176.size a := fun v637 k0_hw115 => k0_hw115
def k0_off117 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c12_i32_261 : BitVec 32 := 12#32
  let v638 : BitVec 32 := Scalar.addi v382 c12_i32_261
  let v639 : Index := Scalar.indexCast v638
  let c48_262 : Index := 48#32
  ![v639.toNat, 48]

def k0_chk116 (v642 : IVec S16 32) : Prop :=
  (∀ a x, ((![v642] : Fin 1 → IVec S16 32) a x).toNat < S2176.size a)
theorem k0_idx116_inb : ∀ (v642 : IVec S16 32) (k0_hw116 : k0_chk116 v642), ∀ a x, ((![v642] : Fin 1 → IVec S16 32) a x).toNat < S2176.size a := fun v642 k0_hw116 => k0_hw116
def k0_off118 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c13_i32_263 : BitVec 32 := 13#32
  let v643 : BitVec 32 := Scalar.addi v382 c13_i32_263
  let v644 : Index := Scalar.indexCast v643
  let c0_264 : Index := 0#32
  ![v644.toNat, 0]

def k0_chk117 (v647 : IVec S16 32) : Prop :=
  (∀ a x, ((![v647] : Fin 1 → IVec S16 32) a x).toNat < S2176.size a)
theorem k0_idx117_inb : ∀ (v647 : IVec S16 32) (k0_hw117 : k0_chk117 v647), ∀ a x, ((![v647] : Fin 1 → IVec S16 32) a x).toNat < S2176.size a := fun v647 k0_hw117 => k0_hw117
def k0_off119 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c13_i32_265 : BitVec 32 := 13#32
  let v648 : BitVec 32 := Scalar.addi v382 c13_i32_265
  let v649 : Index := Scalar.indexCast v648
  let c16_266 : Index := 16#32
  ![v649.toNat, 16]

def k0_chk118 (v652 : IVec S16 32) : Prop :=
  (∀ a x, ((![v652] : Fin 1 → IVec S16 32) a x).toNat < S2176.size a)
theorem k0_idx118_inb : ∀ (v652 : IVec S16 32) (k0_hw118 : k0_chk118 v652), ∀ a x, ((![v652] : Fin 1 → IVec S16 32) a x).toNat < S2176.size a := fun v652 k0_hw118 => k0_hw118
def k0_off120 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c13_i32_267 : BitVec 32 := 13#32
  let v653 : BitVec 32 := Scalar.addi v382 c13_i32_267
  let v654 : Index := Scalar.indexCast v653
  let c32_268 : Index := 32#32
  ![v654.toNat, 32]

def k0_chk119 (v657 : IVec S16 32) : Prop :=
  (∀ a x, ((![v657] : Fin 1 → IVec S16 32) a x).toNat < S2176.size a)
theorem k0_idx119_inb : ∀ (v657 : IVec S16 32) (k0_hw119 : k0_chk119 v657), ∀ a x, ((![v657] : Fin 1 → IVec S16 32) a x).toNat < S2176.size a := fun v657 k0_hw119 => k0_hw119
def k0_off121 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c13_i32_269 : BitVec 32 := 13#32
  let v658 : BitVec 32 := Scalar.addi v382 c13_i32_269
  let v659 : Index := Scalar.indexCast v658
  let c48_270 : Index := 48#32
  ![v659.toNat, 48]

def k0_chk120 (v662 : IVec S16 32) : Prop :=
  (∀ a x, ((![v662] : Fin 1 → IVec S16 32) a x).toNat < S2176.size a)
theorem k0_idx120_inb : ∀ (v662 : IVec S16 32) (k0_hw120 : k0_chk120 v662), ∀ a x, ((![v662] : Fin 1 → IVec S16 32) a x).toNat < S2176.size a := fun v662 k0_hw120 => k0_hw120
def k0_off122 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c14_i32_271 : BitVec 32 := 14#32
  let v663 : BitVec 32 := Scalar.addi v382 c14_i32_271
  let v664 : Index := Scalar.indexCast v663
  let c0_272 : Index := 0#32
  ![v664.toNat, 0]

def k0_chk121 (v667 : IVec S16 32) : Prop :=
  (∀ a x, ((![v667] : Fin 1 → IVec S16 32) a x).toNat < S2176.size a)
theorem k0_idx121_inb : ∀ (v667 : IVec S16 32) (k0_hw121 : k0_chk121 v667), ∀ a x, ((![v667] : Fin 1 → IVec S16 32) a x).toNat < S2176.size a := fun v667 k0_hw121 => k0_hw121
def k0_off123 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c14_i32_273 : BitVec 32 := 14#32
  let v668 : BitVec 32 := Scalar.addi v382 c14_i32_273
  let v669 : Index := Scalar.indexCast v668
  let c16_274 : Index := 16#32
  ![v669.toNat, 16]

def k0_chk122 (v672 : IVec S16 32) : Prop :=
  (∀ a x, ((![v672] : Fin 1 → IVec S16 32) a x).toNat < S2176.size a)
theorem k0_idx122_inb : ∀ (v672 : IVec S16 32) (k0_hw122 : k0_chk122 v672), ∀ a x, ((![v672] : Fin 1 → IVec S16 32) a x).toNat < S2176.size a := fun v672 k0_hw122 => k0_hw122
def k0_off124 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c14_i32_275 : BitVec 32 := 14#32
  let v673 : BitVec 32 := Scalar.addi v382 c14_i32_275
  let v674 : Index := Scalar.indexCast v673
  let c32_276 : Index := 32#32
  ![v674.toNat, 32]

def k0_chk123 (v677 : IVec S16 32) : Prop :=
  (∀ a x, ((![v677] : Fin 1 → IVec S16 32) a x).toNat < S2176.size a)
theorem k0_idx123_inb : ∀ (v677 : IVec S16 32) (k0_hw123 : k0_chk123 v677), ∀ a x, ((![v677] : Fin 1 → IVec S16 32) a x).toNat < S2176.size a := fun v677 k0_hw123 => k0_hw123
def k0_off125 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c14_i32_277 : BitVec 32 := 14#32
  let v678 : BitVec 32 := Scalar.addi v382 c14_i32_277
  let v679 : Index := Scalar.indexCast v678
  let c48_278 : Index := 48#32
  ![v679.toNat, 48]

def k0_chk124 (v682 : IVec S16 32) : Prop :=
  (∀ a x, ((![v682] : Fin 1 → IVec S16 32) a x).toNat < S2176.size a)
theorem k0_idx124_inb : ∀ (v682 : IVec S16 32) (k0_hw124 : k0_chk124 v682), ∀ a x, ((![v682] : Fin 1 → IVec S16 32) a x).toNat < S2176.size a := fun v682 k0_hw124 => k0_hw124
def k0_off126 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c15_i32_279 : BitVec 32 := 15#32
  let v683 : BitVec 32 := Scalar.addi v382 c15_i32_279
  let v684 : Index := Scalar.indexCast v683
  let c0_280 : Index := 0#32
  ![v684.toNat, 0]

def k0_chk125 (v687 : IVec S16 32) : Prop :=
  (∀ a x, ((![v687] : Fin 1 → IVec S16 32) a x).toNat < S2176.size a)
theorem k0_idx125_inb : ∀ (v687 : IVec S16 32) (k0_hw125 : k0_chk125 v687), ∀ a x, ((![v687] : Fin 1 → IVec S16 32) a x).toNat < S2176.size a := fun v687 k0_hw125 => k0_hw125
def k0_off127 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c15_i32_281 : BitVec 32 := 15#32
  let v688 : BitVec 32 := Scalar.addi v382 c15_i32_281
  let v689 : Index := Scalar.indexCast v688
  let c16_282 : Index := 16#32
  ![v689.toNat, 16]

def k0_chk126 (v692 : IVec S16 32) : Prop :=
  (∀ a x, ((![v692] : Fin 1 → IVec S16 32) a x).toNat < S2176.size a)
theorem k0_idx126_inb : ∀ (v692 : IVec S16 32) (k0_hw126 : k0_chk126 v692), ∀ a x, ((![v692] : Fin 1 → IVec S16 32) a x).toNat < S2176.size a := fun v692 k0_hw126 => k0_hw126
def k0_off128 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c15_i32_283 : BitVec 32 := 15#32
  let v693 : BitVec 32 := Scalar.addi v382 c15_i32_283
  let v694 : Index := Scalar.indexCast v693
  let c32_284 : Index := 32#32
  ![v694.toNat, 32]

def k0_chk127 (v697 : IVec S16 32) : Prop :=
  (∀ a x, ((![v697] : Fin 1 → IVec S16 32) a x).toNat < S2176.size a)
theorem k0_idx127_inb : ∀ (v697 : IVec S16 32) (k0_hw127 : k0_chk127 v697), ∀ a x, ((![v697] : Fin 1 → IVec S16 32) a x).toNat < S2176.size a := fun v697 k0_hw127 => k0_hw127
def k0_off129 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c15_i32_285 : BitVec 32 := 15#32
  let v698 : BitVec 32 := Scalar.addi v382 c15_i32_285
  let v699 : Index := Scalar.indexCast v698
  let c48_286 : Index := 48#32
  ![v699.toNat, 48]

def k0_chk128 (v702 : IVec S16 32) : Prop :=
  (∀ a x, ((![v702] : Fin 1 → IVec S16 32) a x).toNat < S2176.size a)
theorem k0_idx128_inb : ∀ (v702 : IVec S16 32) (k0_hw128 : k0_chk128 v702), ∀ a x, ((![v702] : Fin 1 → IVec S16 32) a x).toNat < S2176.size a := fun v702 k0_hw128 => k0_hw128
@[reducible] def k0_t2_loop : Scf.Loop 32 :=
  let c0_i32_22 : BitVec 32 := 0#32
  let c8_i32_23 : BitVec 32 := 8#32
  let v55 : BitVec 32 := Scalar.addi c0_i32_22 c8_i32_23
  let c1_i32_24 : BitVec 32 := 1#32
  ⟨c0_i32_22, v55, c1_i32_24⟩
def k0_off130 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c0_i32_27 : BitVec 32 := 0#32
  let v60 : BitVec 32 := Scalar.addi v59 c0_i32_27
  let v61 : Index := Scalar.indexCast v60
  let c0_28 : Index := 0#32
  ![v61.toNat, 0]

def k0_chk129 (v64 : IVec S16 32) : Prop :=
  (∀ a x, ((![v64] : Fin 1 → IVec S16 32) a x).toNat < S2176.size a)
theorem k0_idx129_inb : ∀ (v64 : IVec S16 32) (k0_hw129 : k0_chk129 v64), ∀ a x, ((![v64] : Fin 1 → IVec S16 32) a x).toNat < S2176.size a := fun v64 k0_hw129 => k0_hw129
def k0_off131 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c0_i32_30 : BitVec 32 := 0#32
  let v65 : BitVec 32 := Scalar.addi v59 c0_i32_30
  let v66 : Index := Scalar.indexCast v65
  let c16 : Index := 16#32
  ![v66.toNat, 16]

def k0_chk130 (v69 : IVec S16 32) : Prop :=
  (∀ a x, ((![v69] : Fin 1 → IVec S16 32) a x).toNat < S2176.size a)
theorem k0_idx130_inb : ∀ (v69 : IVec S16 32) (k0_hw130 : k0_chk130 v69), ∀ a x, ((![v69] : Fin 1 → IVec S16 32) a x).toNat < S2176.size a := fun v69 k0_hw130 => k0_hw130
def k0_off132 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c0_i32_31 : BitVec 32 := 0#32
  let v70 : BitVec 32 := Scalar.addi v59 c0_i32_31
  let v71 : Index := Scalar.indexCast v70
  let c32 : Index := 32#32
  ![v71.toNat, 32]

def k0_chk131 (v74 : IVec S16 32) : Prop :=
  (∀ a x, ((![v74] : Fin 1 → IVec S16 32) a x).toNat < S2176.size a)
theorem k0_idx131_inb : ∀ (v74 : IVec S16 32) (k0_hw131 : k0_chk131 v74), ∀ a x, ((![v74] : Fin 1 → IVec S16 32) a x).toNat < S2176.size a := fun v74 k0_hw131 => k0_hw131
def k0_off133 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c0_i32_32 : BitVec 32 := 0#32
  let v75 : BitVec 32 := Scalar.addi v59 c0_i32_32
  let v76 : Index := Scalar.indexCast v75
  let c48 : Index := 48#32
  ![v76.toNat, 48]

def k0_chk132 (v79 : IVec S16 32) : Prop :=
  (∀ a x, ((![v79] : Fin 1 → IVec S16 32) a x).toNat < S2176.size a)
theorem k0_idx132_inb : ∀ (v79 : IVec S16 32) (k0_hw132 : k0_chk132 v79), ∀ a x, ((![v79] : Fin 1 → IVec S16 32) a x).toNat < S2176.size a := fun v79 k0_hw132 => k0_hw132
def k0_off134 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c1_i32_33 : BitVec 32 := 1#32
  let v80 : BitVec 32 := Scalar.addi v59 c1_i32_33
  let v81 : Index := Scalar.indexCast v80
  let c0_34 : Index := 0#32
  ![v81.toNat, 0]

def k0_chk133 (v84 : IVec S16 32) : Prop :=
  (∀ a x, ((![v84] : Fin 1 → IVec S16 32) a x).toNat < S2176.size a)
theorem k0_idx133_inb : ∀ (v84 : IVec S16 32) (k0_hw133 : k0_chk133 v84), ∀ a x, ((![v84] : Fin 1 → IVec S16 32) a x).toNat < S2176.size a := fun v84 k0_hw133 => k0_hw133
def k0_off135 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c1_i32_36 : BitVec 32 := 1#32
  let v85 : BitVec 32 := Scalar.addi v59 c1_i32_36
  let v86 : Index := Scalar.indexCast v85
  let c16_37 : Index := 16#32
  ![v86.toNat, 16]

def k0_chk134 (v89 : IVec S16 32) : Prop :=
  (∀ a x, ((![v89] : Fin 1 → IVec S16 32) a x).toNat < S2176.size a)
theorem k0_idx134_inb : ∀ (v89 : IVec S16 32) (k0_hw134 : k0_chk134 v89), ∀ a x, ((![v89] : Fin 1 → IVec S16 32) a x).toNat < S2176.size a := fun v89 k0_hw134 => k0_hw134
def k0_off136 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c1_i32_38 : BitVec 32 := 1#32
  let v90 : BitVec 32 := Scalar.addi v59 c1_i32_38
  let v91 : Index := Scalar.indexCast v90
  let c32_39 : Index := 32#32
  ![v91.toNat, 32]

def k0_chk135 (v94 : IVec S16 32) : Prop :=
  (∀ a x, ((![v94] : Fin 1 → IVec S16 32) a x).toNat < S2176.size a)
theorem k0_idx135_inb : ∀ (v94 : IVec S16 32) (k0_hw135 : k0_chk135 v94), ∀ a x, ((![v94] : Fin 1 → IVec S16 32) a x).toNat < S2176.size a := fun v94 k0_hw135 => k0_hw135
def k0_off137 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c1_i32_40 : BitVec 32 := 1#32
  let v95 : BitVec 32 := Scalar.addi v59 c1_i32_40
  let v96 : Index := Scalar.indexCast v95
  let c48_41 : Index := 48#32
  ![v96.toNat, 48]

def k0_chk136 (v99 : IVec S16 32) : Prop :=
  (∀ a x, ((![v99] : Fin 1 → IVec S16 32) a x).toNat < S2176.size a)
theorem k0_idx136_inb : ∀ (v99 : IVec S16 32) (k0_hw136 : k0_chk136 v99), ∀ a x, ((![v99] : Fin 1 → IVec S16 32) a x).toNat < S2176.size a := fun v99 k0_hw136 => k0_hw136
def k0_off138 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c2_i32_42 : BitVec 32 := 2#32
  let v100 : BitVec 32 := Scalar.addi v59 c2_i32_42
  let v101 : Index := Scalar.indexCast v100
  let c0_43 : Index := 0#32
  ![v101.toNat, 0]

def k0_chk137 (v104 : IVec S16 32) : Prop :=
  (∀ a x, ((![v104] : Fin 1 → IVec S16 32) a x).toNat < S2176.size a)
theorem k0_idx137_inb : ∀ (v104 : IVec S16 32) (k0_hw137 : k0_chk137 v104), ∀ a x, ((![v104] : Fin 1 → IVec S16 32) a x).toNat < S2176.size a := fun v104 k0_hw137 => k0_hw137
def k0_off139 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c2_i32_45 : BitVec 32 := 2#32
  let v105 : BitVec 32 := Scalar.addi v59 c2_i32_45
  let v106 : Index := Scalar.indexCast v105
  let c16_46 : Index := 16#32
  ![v106.toNat, 16]

def k0_chk138 (v109 : IVec S16 32) : Prop :=
  (∀ a x, ((![v109] : Fin 1 → IVec S16 32) a x).toNat < S2176.size a)
theorem k0_idx138_inb : ∀ (v109 : IVec S16 32) (k0_hw138 : k0_chk138 v109), ∀ a x, ((![v109] : Fin 1 → IVec S16 32) a x).toNat < S2176.size a := fun v109 k0_hw138 => k0_hw138
def k0_off140 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c2_i32_47 : BitVec 32 := 2#32
  let v110 : BitVec 32 := Scalar.addi v59 c2_i32_47
  let v111 : Index := Scalar.indexCast v110
  let c32_48 : Index := 32#32
  ![v111.toNat, 32]

def k0_chk139 (v114 : IVec S16 32) : Prop :=
  (∀ a x, ((![v114] : Fin 1 → IVec S16 32) a x).toNat < S2176.size a)
theorem k0_idx139_inb : ∀ (v114 : IVec S16 32) (k0_hw139 : k0_chk139 v114), ∀ a x, ((![v114] : Fin 1 → IVec S16 32) a x).toNat < S2176.size a := fun v114 k0_hw139 => k0_hw139
def k0_off141 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c2_i32_49 : BitVec 32 := 2#32
  let v115 : BitVec 32 := Scalar.addi v59 c2_i32_49
  let v116 : Index := Scalar.indexCast v115
  let c48_50 : Index := 48#32
  ![v116.toNat, 48]

def k0_chk140 (v119 : IVec S16 32) : Prop :=
  (∀ a x, ((![v119] : Fin 1 → IVec S16 32) a x).toNat < S2176.size a)
theorem k0_idx140_inb : ∀ (v119 : IVec S16 32) (k0_hw140 : k0_chk140 v119), ∀ a x, ((![v119] : Fin 1 → IVec S16 32) a x).toNat < S2176.size a := fun v119 k0_hw140 => k0_hw140
def k0_off142 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c3_i32 : BitVec 32 := 3#32
  let v120 : BitVec 32 := Scalar.addi v59 c3_i32
  let v121 : Index := Scalar.indexCast v120
  let c0_51 : Index := 0#32
  ![v121.toNat, 0]

def k0_chk141 (v124 : IVec S16 32) : Prop :=
  (∀ a x, ((![v124] : Fin 1 → IVec S16 32) a x).toNat < S2176.size a)
theorem k0_idx141_inb : ∀ (v124 : IVec S16 32) (k0_hw141 : k0_chk141 v124), ∀ a x, ((![v124] : Fin 1 → IVec S16 32) a x).toNat < S2176.size a := fun v124 k0_hw141 => k0_hw141
def k0_off143 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c3_i32_53 : BitVec 32 := 3#32
  let v125 : BitVec 32 := Scalar.addi v59 c3_i32_53
  let v126 : Index := Scalar.indexCast v125
  let c16_54 : Index := 16#32
  ![v126.toNat, 16]

def k0_chk142 (v129 : IVec S16 32) : Prop :=
  (∀ a x, ((![v129] : Fin 1 → IVec S16 32) a x).toNat < S2176.size a)
theorem k0_idx142_inb : ∀ (v129 : IVec S16 32) (k0_hw142 : k0_chk142 v129), ∀ a x, ((![v129] : Fin 1 → IVec S16 32) a x).toNat < S2176.size a := fun v129 k0_hw142 => k0_hw142
def k0_off144 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c3_i32_55 : BitVec 32 := 3#32
  let v130 : BitVec 32 := Scalar.addi v59 c3_i32_55
  let v131 : Index := Scalar.indexCast v130
  let c32_56 : Index := 32#32
  ![v131.toNat, 32]

def k0_chk143 (v134 : IVec S16 32) : Prop :=
  (∀ a x, ((![v134] : Fin 1 → IVec S16 32) a x).toNat < S2176.size a)
theorem k0_idx143_inb : ∀ (v134 : IVec S16 32) (k0_hw143 : k0_chk143 v134), ∀ a x, ((![v134] : Fin 1 → IVec S16 32) a x).toNat < S2176.size a := fun v134 k0_hw143 => k0_hw143
def k0_off145 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c3_i32_57 : BitVec 32 := 3#32
  let v135 : BitVec 32 := Scalar.addi v59 c3_i32_57
  let v136 : Index := Scalar.indexCast v135
  let c48_58 : Index := 48#32
  ![v136.toNat, 48]

def k0_chk144 (v139 : IVec S16 32) : Prop :=
  (∀ a x, ((![v139] : Fin 1 → IVec S16 32) a x).toNat < S2176.size a)
theorem k0_idx144_inb : ∀ (v139 : IVec S16 32) (k0_hw144 : k0_chk144 v139), ∀ a x, ((![v139] : Fin 1 → IVec S16 32) a x).toNat < S2176.size a := fun v139 k0_hw144 => k0_hw144
def k0_off146 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c4_i32 : BitVec 32 := 4#32
  let v140 : BitVec 32 := Scalar.addi v59 c4_i32
  let v141 : Index := Scalar.indexCast v140
  let c0_59 : Index := 0#32
  ![v141.toNat, 0]

def k0_chk145 (v144 : IVec S16 32) : Prop :=
  (∀ a x, ((![v144] : Fin 1 → IVec S16 32) a x).toNat < S2176.size a)
theorem k0_idx145_inb : ∀ (v144 : IVec S16 32) (k0_hw145 : k0_chk145 v144), ∀ a x, ((![v144] : Fin 1 → IVec S16 32) a x).toNat < S2176.size a := fun v144 k0_hw145 => k0_hw145
def k0_off147 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c4_i32_61 : BitVec 32 := 4#32
  let v145 : BitVec 32 := Scalar.addi v59 c4_i32_61
  let v146 : Index := Scalar.indexCast v145
  let c16_62 : Index := 16#32
  ![v146.toNat, 16]

def k0_chk146 (v149 : IVec S16 32) : Prop :=
  (∀ a x, ((![v149] : Fin 1 → IVec S16 32) a x).toNat < S2176.size a)
theorem k0_idx146_inb : ∀ (v149 : IVec S16 32) (k0_hw146 : k0_chk146 v149), ∀ a x, ((![v149] : Fin 1 → IVec S16 32) a x).toNat < S2176.size a := fun v149 k0_hw146 => k0_hw146
def k0_off148 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c4_i32_63 : BitVec 32 := 4#32
  let v150 : BitVec 32 := Scalar.addi v59 c4_i32_63
  let v151 : Index := Scalar.indexCast v150
  let c32_64 : Index := 32#32
  ![v151.toNat, 32]

def k0_chk147 (v154 : IVec S16 32) : Prop :=
  (∀ a x, ((![v154] : Fin 1 → IVec S16 32) a x).toNat < S2176.size a)
theorem k0_idx147_inb : ∀ (v154 : IVec S16 32) (k0_hw147 : k0_chk147 v154), ∀ a x, ((![v154] : Fin 1 → IVec S16 32) a x).toNat < S2176.size a := fun v154 k0_hw147 => k0_hw147
def k0_off149 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c4_i32_65 : BitVec 32 := 4#32
  let v155 : BitVec 32 := Scalar.addi v59 c4_i32_65
  let v156 : Index := Scalar.indexCast v155
  let c48_66 : Index := 48#32
  ![v156.toNat, 48]

def k0_chk148 (v159 : IVec S16 32) : Prop :=
  (∀ a x, ((![v159] : Fin 1 → IVec S16 32) a x).toNat < S2176.size a)
theorem k0_idx148_inb : ∀ (v159 : IVec S16 32) (k0_hw148 : k0_chk148 v159), ∀ a x, ((![v159] : Fin 1 → IVec S16 32) a x).toNat < S2176.size a := fun v159 k0_hw148 => k0_hw148
def k0_off150 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c5_i32 : BitVec 32 := 5#32
  let v160 : BitVec 32 := Scalar.addi v59 c5_i32
  let v161 : Index := Scalar.indexCast v160
  let c0_67 : Index := 0#32
  ![v161.toNat, 0]

def k0_chk149 (v164 : IVec S16 32) : Prop :=
  (∀ a x, ((![v164] : Fin 1 → IVec S16 32) a x).toNat < S2176.size a)
theorem k0_idx149_inb : ∀ (v164 : IVec S16 32) (k0_hw149 : k0_chk149 v164), ∀ a x, ((![v164] : Fin 1 → IVec S16 32) a x).toNat < S2176.size a := fun v164 k0_hw149 => k0_hw149
def k0_off151 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c5_i32_69 : BitVec 32 := 5#32
  let v165 : BitVec 32 := Scalar.addi v59 c5_i32_69
  let v166 : Index := Scalar.indexCast v165
  let c16_70 : Index := 16#32
  ![v166.toNat, 16]

def k0_chk150 (v169 : IVec S16 32) : Prop :=
  (∀ a x, ((![v169] : Fin 1 → IVec S16 32) a x).toNat < S2176.size a)
theorem k0_idx150_inb : ∀ (v169 : IVec S16 32) (k0_hw150 : k0_chk150 v169), ∀ a x, ((![v169] : Fin 1 → IVec S16 32) a x).toNat < S2176.size a := fun v169 k0_hw150 => k0_hw150
def k0_off152 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c5_i32_71 : BitVec 32 := 5#32
  let v170 : BitVec 32 := Scalar.addi v59 c5_i32_71
  let v171 : Index := Scalar.indexCast v170
  let c32_72 : Index := 32#32
  ![v171.toNat, 32]

def k0_chk151 (v174 : IVec S16 32) : Prop :=
  (∀ a x, ((![v174] : Fin 1 → IVec S16 32) a x).toNat < S2176.size a)
theorem k0_idx151_inb : ∀ (v174 : IVec S16 32) (k0_hw151 : k0_chk151 v174), ∀ a x, ((![v174] : Fin 1 → IVec S16 32) a x).toNat < S2176.size a := fun v174 k0_hw151 => k0_hw151
def k0_off153 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c5_i32_73 : BitVec 32 := 5#32
  let v175 : BitVec 32 := Scalar.addi v59 c5_i32_73
  let v176 : Index := Scalar.indexCast v175
  let c48_74 : Index := 48#32
  ![v176.toNat, 48]

def k0_chk152 (v179 : IVec S16 32) : Prop :=
  (∀ a x, ((![v179] : Fin 1 → IVec S16 32) a x).toNat < S2176.size a)
theorem k0_idx152_inb : ∀ (v179 : IVec S16 32) (k0_hw152 : k0_chk152 v179), ∀ a x, ((![v179] : Fin 1 → IVec S16 32) a x).toNat < S2176.size a := fun v179 k0_hw152 => k0_hw152
def k0_off154 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c6_i32 : BitVec 32 := 6#32
  let v180 : BitVec 32 := Scalar.addi v59 c6_i32
  let v181 : Index := Scalar.indexCast v180
  let c0_75 : Index := 0#32
  ![v181.toNat, 0]

def k0_chk153 (v184 : IVec S16 32) : Prop :=
  (∀ a x, ((![v184] : Fin 1 → IVec S16 32) a x).toNat < S2176.size a)
theorem k0_idx153_inb : ∀ (v184 : IVec S16 32) (k0_hw153 : k0_chk153 v184), ∀ a x, ((![v184] : Fin 1 → IVec S16 32) a x).toNat < S2176.size a := fun v184 k0_hw153 => k0_hw153
def k0_off155 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c6_i32_77 : BitVec 32 := 6#32
  let v185 : BitVec 32 := Scalar.addi v59 c6_i32_77
  let v186 : Index := Scalar.indexCast v185
  let c16_78 : Index := 16#32
  ![v186.toNat, 16]

def k0_chk154 (v189 : IVec S16 32) : Prop :=
  (∀ a x, ((![v189] : Fin 1 → IVec S16 32) a x).toNat < S2176.size a)
theorem k0_idx154_inb : ∀ (v189 : IVec S16 32) (k0_hw154 : k0_chk154 v189), ∀ a x, ((![v189] : Fin 1 → IVec S16 32) a x).toNat < S2176.size a := fun v189 k0_hw154 => k0_hw154
def k0_off156 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c6_i32_79 : BitVec 32 := 6#32
  let v190 : BitVec 32 := Scalar.addi v59 c6_i32_79
  let v191 : Index := Scalar.indexCast v190
  let c32_80 : Index := 32#32
  ![v191.toNat, 32]

def k0_chk155 (v194 : IVec S16 32) : Prop :=
  (∀ a x, ((![v194] : Fin 1 → IVec S16 32) a x).toNat < S2176.size a)
theorem k0_idx155_inb : ∀ (v194 : IVec S16 32) (k0_hw155 : k0_chk155 v194), ∀ a x, ((![v194] : Fin 1 → IVec S16 32) a x).toNat < S2176.size a := fun v194 k0_hw155 => k0_hw155
def k0_off157 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c6_i32_81 : BitVec 32 := 6#32
  let v195 : BitVec 32 := Scalar.addi v59 c6_i32_81
  let v196 : Index := Scalar.indexCast v195
  let c48_82 : Index := 48#32
  ![v196.toNat, 48]

def k0_chk156 (v199 : IVec S16 32) : Prop :=
  (∀ a x, ((![v199] : Fin 1 → IVec S16 32) a x).toNat < S2176.size a)
theorem k0_idx156_inb : ∀ (v199 : IVec S16 32) (k0_hw156 : k0_chk156 v199), ∀ a x, ((![v199] : Fin 1 → IVec S16 32) a x).toNat < S2176.size a := fun v199 k0_hw156 => k0_hw156
def k0_off158 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c7_i32 : BitVec 32 := 7#32
  let v200 : BitVec 32 := Scalar.addi v59 c7_i32
  let v201 : Index := Scalar.indexCast v200
  let c0_83 : Index := 0#32
  ![v201.toNat, 0]

def k0_chk157 (v204 : IVec S16 32) : Prop :=
  (∀ a x, ((![v204] : Fin 1 → IVec S16 32) a x).toNat < S2176.size a)
theorem k0_idx157_inb : ∀ (v204 : IVec S16 32) (k0_hw157 : k0_chk157 v204), ∀ a x, ((![v204] : Fin 1 → IVec S16 32) a x).toNat < S2176.size a := fun v204 k0_hw157 => k0_hw157
def k0_off159 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c7_i32_85 : BitVec 32 := 7#32
  let v205 : BitVec 32 := Scalar.addi v59 c7_i32_85
  let v206 : Index := Scalar.indexCast v205
  let c16_86 : Index := 16#32
  ![v206.toNat, 16]

def k0_chk158 (v209 : IVec S16 32) : Prop :=
  (∀ a x, ((![v209] : Fin 1 → IVec S16 32) a x).toNat < S2176.size a)
theorem k0_idx158_inb : ∀ (v209 : IVec S16 32) (k0_hw158 : k0_chk158 v209), ∀ a x, ((![v209] : Fin 1 → IVec S16 32) a x).toNat < S2176.size a := fun v209 k0_hw158 => k0_hw158
def k0_off160 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c7_i32_87 : BitVec 32 := 7#32
  let v210 : BitVec 32 := Scalar.addi v59 c7_i32_87
  let v211 : Index := Scalar.indexCast v210
  let c32_88 : Index := 32#32
  ![v211.toNat, 32]

def k0_chk159 (v214 : IVec S16 32) : Prop :=
  (∀ a x, ((![v214] : Fin 1 → IVec S16 32) a x).toNat < S2176.size a)
theorem k0_idx159_inb : ∀ (v214 : IVec S16 32) (k0_hw159 : k0_chk159 v214), ∀ a x, ((![v214] : Fin 1 → IVec S16 32) a x).toNat < S2176.size a := fun v214 k0_hw159 => k0_hw159
def k0_off161 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c7_i32_89 : BitVec 32 := 7#32
  let v215 : BitVec 32 := Scalar.addi v59 c7_i32_89
  let v216 : Index := Scalar.indexCast v215
  let c48_90 : Index := 48#32
  ![v216.toNat, 48]

def k0_chk160 (v219 : IVec S16 32) : Prop :=
  (∀ a x, ((![v219] : Fin 1 → IVec S16 32) a x).toNat < S2176.size a)
theorem k0_idx160_inb : ∀ (v219 : IVec S16 32) (k0_hw160 : k0_chk160 v219), ∀ a x, ((![v219] : Fin 1 → IVec S16 32) a x).toNat < S2176.size a := fun v219 k0_hw160 => k0_hw160
def k0_off162 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c8_i32_91 : BitVec 32 := 8#32
  let v220 : BitVec 32 := Scalar.addi v59 c8_i32_91
  let v221 : Index := Scalar.indexCast v220
  let c0_92 : Index := 0#32
  ![v221.toNat, 0]

def k0_chk161 (v224 : IVec S16 32) : Prop :=
  (∀ a x, ((![v224] : Fin 1 → IVec S16 32) a x).toNat < S2176.size a)
theorem k0_idx161_inb : ∀ (v224 : IVec S16 32) (k0_hw161 : k0_chk161 v224), ∀ a x, ((![v224] : Fin 1 → IVec S16 32) a x).toNat < S2176.size a := fun v224 k0_hw161 => k0_hw161
def k0_off163 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c8_i32_94 : BitVec 32 := 8#32
  let v225 : BitVec 32 := Scalar.addi v59 c8_i32_94
  let v226 : Index := Scalar.indexCast v225
  let c16_95 : Index := 16#32
  ![v226.toNat, 16]

def k0_chk162 (v229 : IVec S16 32) : Prop :=
  (∀ a x, ((![v229] : Fin 1 → IVec S16 32) a x).toNat < S2176.size a)
theorem k0_idx162_inb : ∀ (v229 : IVec S16 32) (k0_hw162 : k0_chk162 v229), ∀ a x, ((![v229] : Fin 1 → IVec S16 32) a x).toNat < S2176.size a := fun v229 k0_hw162 => k0_hw162
def k0_off164 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c8_i32_96 : BitVec 32 := 8#32
  let v230 : BitVec 32 := Scalar.addi v59 c8_i32_96
  let v231 : Index := Scalar.indexCast v230
  let c32_97 : Index := 32#32
  ![v231.toNat, 32]

def k0_chk163 (v234 : IVec S16 32) : Prop :=
  (∀ a x, ((![v234] : Fin 1 → IVec S16 32) a x).toNat < S2176.size a)
theorem k0_idx163_inb : ∀ (v234 : IVec S16 32) (k0_hw163 : k0_chk163 v234), ∀ a x, ((![v234] : Fin 1 → IVec S16 32) a x).toNat < S2176.size a := fun v234 k0_hw163 => k0_hw163
def k0_off165 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c8_i32_98 : BitVec 32 := 8#32
  let v235 : BitVec 32 := Scalar.addi v59 c8_i32_98
  let v236 : Index := Scalar.indexCast v235
  let c48_99 : Index := 48#32
  ![v236.toNat, 48]

def k0_chk164 (v239 : IVec S16 32) : Prop :=
  (∀ a x, ((![v239] : Fin 1 → IVec S16 32) a x).toNat < S2176.size a)
theorem k0_idx164_inb : ∀ (v239 : IVec S16 32) (k0_hw164 : k0_chk164 v239), ∀ a x, ((![v239] : Fin 1 → IVec S16 32) a x).toNat < S2176.size a := fun v239 k0_hw164 => k0_hw164
def k0_off166 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c9_i32 : BitVec 32 := 9#32
  let v240 : BitVec 32 := Scalar.addi v59 c9_i32
  let v241 : Index := Scalar.indexCast v240
  let c0_100 : Index := 0#32
  ![v241.toNat, 0]

def k0_chk165 (v244 : IVec S16 32) : Prop :=
  (∀ a x, ((![v244] : Fin 1 → IVec S16 32) a x).toNat < S2176.size a)
theorem k0_idx165_inb : ∀ (v244 : IVec S16 32) (k0_hw165 : k0_chk165 v244), ∀ a x, ((![v244] : Fin 1 → IVec S16 32) a x).toNat < S2176.size a := fun v244 k0_hw165 => k0_hw165
def k0_off167 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c9_i32_102 : BitVec 32 := 9#32
  let v245 : BitVec 32 := Scalar.addi v59 c9_i32_102
  let v246 : Index := Scalar.indexCast v245
  let c16_103 : Index := 16#32
  ![v246.toNat, 16]

def k0_chk166 (v249 : IVec S16 32) : Prop :=
  (∀ a x, ((![v249] : Fin 1 → IVec S16 32) a x).toNat < S2176.size a)
theorem k0_idx166_inb : ∀ (v249 : IVec S16 32) (k0_hw166 : k0_chk166 v249), ∀ a x, ((![v249] : Fin 1 → IVec S16 32) a x).toNat < S2176.size a := fun v249 k0_hw166 => k0_hw166
def k0_off168 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c9_i32_104 : BitVec 32 := 9#32
  let v250 : BitVec 32 := Scalar.addi v59 c9_i32_104
  let v251 : Index := Scalar.indexCast v250
  let c32_105 : Index := 32#32
  ![v251.toNat, 32]

def k0_chk167 (v254 : IVec S16 32) : Prop :=
  (∀ a x, ((![v254] : Fin 1 → IVec S16 32) a x).toNat < S2176.size a)
theorem k0_idx167_inb : ∀ (v254 : IVec S16 32) (k0_hw167 : k0_chk167 v254), ∀ a x, ((![v254] : Fin 1 → IVec S16 32) a x).toNat < S2176.size a := fun v254 k0_hw167 => k0_hw167
def k0_off169 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c9_i32_106 : BitVec 32 := 9#32
  let v255 : BitVec 32 := Scalar.addi v59 c9_i32_106
  let v256 : Index := Scalar.indexCast v255
  let c48_107 : Index := 48#32
  ![v256.toNat, 48]

def k0_chk168 (v259 : IVec S16 32) : Prop :=
  (∀ a x, ((![v259] : Fin 1 → IVec S16 32) a x).toNat < S2176.size a)
theorem k0_idx168_inb : ∀ (v259 : IVec S16 32) (k0_hw168 : k0_chk168 v259), ∀ a x, ((![v259] : Fin 1 → IVec S16 32) a x).toNat < S2176.size a := fun v259 k0_hw168 => k0_hw168
def k0_off170 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c10_i32 : BitVec 32 := 10#32
  let v260 : BitVec 32 := Scalar.addi v59 c10_i32
  let v261 : Index := Scalar.indexCast v260
  let c0_108 : Index := 0#32
  ![v261.toNat, 0]

def k0_chk169 (v264 : IVec S16 32) : Prop :=
  (∀ a x, ((![v264] : Fin 1 → IVec S16 32) a x).toNat < S2176.size a)
theorem k0_idx169_inb : ∀ (v264 : IVec S16 32) (k0_hw169 : k0_chk169 v264), ∀ a x, ((![v264] : Fin 1 → IVec S16 32) a x).toNat < S2176.size a := fun v264 k0_hw169 => k0_hw169
def k0_off171 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c10_i32_110 : BitVec 32 := 10#32
  let v265 : BitVec 32 := Scalar.addi v59 c10_i32_110
  let v266 : Index := Scalar.indexCast v265
  let c16_111 : Index := 16#32
  ![v266.toNat, 16]

def k0_chk170 (v269 : IVec S16 32) : Prop :=
  (∀ a x, ((![v269] : Fin 1 → IVec S16 32) a x).toNat < S2176.size a)
theorem k0_idx170_inb : ∀ (v269 : IVec S16 32) (k0_hw170 : k0_chk170 v269), ∀ a x, ((![v269] : Fin 1 → IVec S16 32) a x).toNat < S2176.size a := fun v269 k0_hw170 => k0_hw170
def k0_off172 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c10_i32_112 : BitVec 32 := 10#32
  let v270 : BitVec 32 := Scalar.addi v59 c10_i32_112
  let v271 : Index := Scalar.indexCast v270
  let c32_113 : Index := 32#32
  ![v271.toNat, 32]

def k0_chk171 (v274 : IVec S16 32) : Prop :=
  (∀ a x, ((![v274] : Fin 1 → IVec S16 32) a x).toNat < S2176.size a)
theorem k0_idx171_inb : ∀ (v274 : IVec S16 32) (k0_hw171 : k0_chk171 v274), ∀ a x, ((![v274] : Fin 1 → IVec S16 32) a x).toNat < S2176.size a := fun v274 k0_hw171 => k0_hw171
def k0_off173 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c10_i32_114 : BitVec 32 := 10#32
  let v275 : BitVec 32 := Scalar.addi v59 c10_i32_114
  let v276 : Index := Scalar.indexCast v275
  let c48_115 : Index := 48#32
  ![v276.toNat, 48]

def k0_chk172 (v279 : IVec S16 32) : Prop :=
  (∀ a x, ((![v279] : Fin 1 → IVec S16 32) a x).toNat < S2176.size a)
theorem k0_idx172_inb : ∀ (v279 : IVec S16 32) (k0_hw172 : k0_chk172 v279), ∀ a x, ((![v279] : Fin 1 → IVec S16 32) a x).toNat < S2176.size a := fun v279 k0_hw172 => k0_hw172
def k0_off174 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c11_i32 : BitVec 32 := 11#32
  let v280 : BitVec 32 := Scalar.addi v59 c11_i32
  let v281 : Index := Scalar.indexCast v280
  let c0_116 : Index := 0#32
  ![v281.toNat, 0]

def k0_chk173 (v284 : IVec S16 32) : Prop :=
  (∀ a x, ((![v284] : Fin 1 → IVec S16 32) a x).toNat < S2176.size a)
theorem k0_idx173_inb : ∀ (v284 : IVec S16 32) (k0_hw173 : k0_chk173 v284), ∀ a x, ((![v284] : Fin 1 → IVec S16 32) a x).toNat < S2176.size a := fun v284 k0_hw173 => k0_hw173
def k0_off175 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c11_i32_118 : BitVec 32 := 11#32
  let v285 : BitVec 32 := Scalar.addi v59 c11_i32_118
  let v286 : Index := Scalar.indexCast v285
  let c16_119 : Index := 16#32
  ![v286.toNat, 16]

def k0_chk174 (v289 : IVec S16 32) : Prop :=
  (∀ a x, ((![v289] : Fin 1 → IVec S16 32) a x).toNat < S2176.size a)
theorem k0_idx174_inb : ∀ (v289 : IVec S16 32) (k0_hw174 : k0_chk174 v289), ∀ a x, ((![v289] : Fin 1 → IVec S16 32) a x).toNat < S2176.size a := fun v289 k0_hw174 => k0_hw174
def k0_off176 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c11_i32_120 : BitVec 32 := 11#32
  let v290 : BitVec 32 := Scalar.addi v59 c11_i32_120
  let v291 : Index := Scalar.indexCast v290
  let c32_121 : Index := 32#32
  ![v291.toNat, 32]

def k0_chk175 (v294 : IVec S16 32) : Prop :=
  (∀ a x, ((![v294] : Fin 1 → IVec S16 32) a x).toNat < S2176.size a)
theorem k0_idx175_inb : ∀ (v294 : IVec S16 32) (k0_hw175 : k0_chk175 v294), ∀ a x, ((![v294] : Fin 1 → IVec S16 32) a x).toNat < S2176.size a := fun v294 k0_hw175 => k0_hw175
def k0_off177 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c11_i32_122 : BitVec 32 := 11#32
  let v295 : BitVec 32 := Scalar.addi v59 c11_i32_122
  let v296 : Index := Scalar.indexCast v295
  let c48_123 : Index := 48#32
  ![v296.toNat, 48]

def k0_chk176 (v299 : IVec S16 32) : Prop :=
  (∀ a x, ((![v299] : Fin 1 → IVec S16 32) a x).toNat < S2176.size a)
theorem k0_idx176_inb : ∀ (v299 : IVec S16 32) (k0_hw176 : k0_chk176 v299), ∀ a x, ((![v299] : Fin 1 → IVec S16 32) a x).toNat < S2176.size a := fun v299 k0_hw176 => k0_hw176
def k0_off178 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c12_i32 : BitVec 32 := 12#32
  let v300 : BitVec 32 := Scalar.addi v59 c12_i32
  let v301 : Index := Scalar.indexCast v300
  let c0_124 : Index := 0#32
  ![v301.toNat, 0]

def k0_chk177 (v304 : IVec S16 32) : Prop :=
  (∀ a x, ((![v304] : Fin 1 → IVec S16 32) a x).toNat < S2176.size a)
theorem k0_idx177_inb : ∀ (v304 : IVec S16 32) (k0_hw177 : k0_chk177 v304), ∀ a x, ((![v304] : Fin 1 → IVec S16 32) a x).toNat < S2176.size a := fun v304 k0_hw177 => k0_hw177
def k0_off179 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c12_i32_126 : BitVec 32 := 12#32
  let v305 : BitVec 32 := Scalar.addi v59 c12_i32_126
  let v306 : Index := Scalar.indexCast v305
  let c16_127 : Index := 16#32
  ![v306.toNat, 16]

def k0_chk178 (v309 : IVec S16 32) : Prop :=
  (∀ a x, ((![v309] : Fin 1 → IVec S16 32) a x).toNat < S2176.size a)
theorem k0_idx178_inb : ∀ (v309 : IVec S16 32) (k0_hw178 : k0_chk178 v309), ∀ a x, ((![v309] : Fin 1 → IVec S16 32) a x).toNat < S2176.size a := fun v309 k0_hw178 => k0_hw178
def k0_off180 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c12_i32_128 : BitVec 32 := 12#32
  let v310 : BitVec 32 := Scalar.addi v59 c12_i32_128
  let v311 : Index := Scalar.indexCast v310
  let c32_129 : Index := 32#32
  ![v311.toNat, 32]

def k0_chk179 (v314 : IVec S16 32) : Prop :=
  (∀ a x, ((![v314] : Fin 1 → IVec S16 32) a x).toNat < S2176.size a)
theorem k0_idx179_inb : ∀ (v314 : IVec S16 32) (k0_hw179 : k0_chk179 v314), ∀ a x, ((![v314] : Fin 1 → IVec S16 32) a x).toNat < S2176.size a := fun v314 k0_hw179 => k0_hw179
def k0_off181 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c12_i32_130 : BitVec 32 := 12#32
  let v315 : BitVec 32 := Scalar.addi v59 c12_i32_130
  let v316 : Index := Scalar.indexCast v315
  let c48_131 : Index := 48#32
  ![v316.toNat, 48]

def k0_chk180 (v319 : IVec S16 32) : Prop :=
  (∀ a x, ((![v319] : Fin 1 → IVec S16 32) a x).toNat < S2176.size a)
theorem k0_idx180_inb : ∀ (v319 : IVec S16 32) (k0_hw180 : k0_chk180 v319), ∀ a x, ((![v319] : Fin 1 → IVec S16 32) a x).toNat < S2176.size a := fun v319 k0_hw180 => k0_hw180
def k0_off182 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c13_i32 : BitVec 32 := 13#32
  let v320 : BitVec 32 := Scalar.addi v59 c13_i32
  let v321 : Index := Scalar.indexCast v320
  let c0_132 : Index := 0#32
  ![v321.toNat, 0]

def k0_chk181 (v324 : IVec S16 32) : Prop :=
  (∀ a x, ((![v324] : Fin 1 → IVec S16 32) a x).toNat < S2176.size a)
theorem k0_idx181_inb : ∀ (v324 : IVec S16 32) (k0_hw181 : k0_chk181 v324), ∀ a x, ((![v324] : Fin 1 → IVec S16 32) a x).toNat < S2176.size a := fun v324 k0_hw181 => k0_hw181
def k0_off183 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c13_i32_134 : BitVec 32 := 13#32
  let v325 : BitVec 32 := Scalar.addi v59 c13_i32_134
  let v326 : Index := Scalar.indexCast v325
  let c16_135 : Index := 16#32
  ![v326.toNat, 16]

def k0_chk182 (v329 : IVec S16 32) : Prop :=
  (∀ a x, ((![v329] : Fin 1 → IVec S16 32) a x).toNat < S2176.size a)
theorem k0_idx182_inb : ∀ (v329 : IVec S16 32) (k0_hw182 : k0_chk182 v329), ∀ a x, ((![v329] : Fin 1 → IVec S16 32) a x).toNat < S2176.size a := fun v329 k0_hw182 => k0_hw182
def k0_off184 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c13_i32_136 : BitVec 32 := 13#32
  let v330 : BitVec 32 := Scalar.addi v59 c13_i32_136
  let v331 : Index := Scalar.indexCast v330
  let c32_137 : Index := 32#32
  ![v331.toNat, 32]

def k0_chk183 (v334 : IVec S16 32) : Prop :=
  (∀ a x, ((![v334] : Fin 1 → IVec S16 32) a x).toNat < S2176.size a)
theorem k0_idx183_inb : ∀ (v334 : IVec S16 32) (k0_hw183 : k0_chk183 v334), ∀ a x, ((![v334] : Fin 1 → IVec S16 32) a x).toNat < S2176.size a := fun v334 k0_hw183 => k0_hw183
def k0_off185 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c13_i32_138 : BitVec 32 := 13#32
  let v335 : BitVec 32 := Scalar.addi v59 c13_i32_138
  let v336 : Index := Scalar.indexCast v335
  let c48_139 : Index := 48#32
  ![v336.toNat, 48]

def k0_chk184 (v339 : IVec S16 32) : Prop :=
  (∀ a x, ((![v339] : Fin 1 → IVec S16 32) a x).toNat < S2176.size a)
theorem k0_idx184_inb : ∀ (v339 : IVec S16 32) (k0_hw184 : k0_chk184 v339), ∀ a x, ((![v339] : Fin 1 → IVec S16 32) a x).toNat < S2176.size a := fun v339 k0_hw184 => k0_hw184
def k0_off186 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c14_i32 : BitVec 32 := 14#32
  let v340 : BitVec 32 := Scalar.addi v59 c14_i32
  let v341 : Index := Scalar.indexCast v340
  let c0_140 : Index := 0#32
  ![v341.toNat, 0]

def k0_chk185 (v344 : IVec S16 32) : Prop :=
  (∀ a x, ((![v344] : Fin 1 → IVec S16 32) a x).toNat < S2176.size a)
theorem k0_idx185_inb : ∀ (v344 : IVec S16 32) (k0_hw185 : k0_chk185 v344), ∀ a x, ((![v344] : Fin 1 → IVec S16 32) a x).toNat < S2176.size a := fun v344 k0_hw185 => k0_hw185
def k0_off187 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c14_i32_142 : BitVec 32 := 14#32
  let v345 : BitVec 32 := Scalar.addi v59 c14_i32_142
  let v346 : Index := Scalar.indexCast v345
  let c16_143 : Index := 16#32
  ![v346.toNat, 16]

def k0_chk186 (v349 : IVec S16 32) : Prop :=
  (∀ a x, ((![v349] : Fin 1 → IVec S16 32) a x).toNat < S2176.size a)
theorem k0_idx186_inb : ∀ (v349 : IVec S16 32) (k0_hw186 : k0_chk186 v349), ∀ a x, ((![v349] : Fin 1 → IVec S16 32) a x).toNat < S2176.size a := fun v349 k0_hw186 => k0_hw186
def k0_off188 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c14_i32_144 : BitVec 32 := 14#32
  let v350 : BitVec 32 := Scalar.addi v59 c14_i32_144
  let v351 : Index := Scalar.indexCast v350
  let c32_145 : Index := 32#32
  ![v351.toNat, 32]

def k0_chk187 (v354 : IVec S16 32) : Prop :=
  (∀ a x, ((![v354] : Fin 1 → IVec S16 32) a x).toNat < S2176.size a)
theorem k0_idx187_inb : ∀ (v354 : IVec S16 32) (k0_hw187 : k0_chk187 v354), ∀ a x, ((![v354] : Fin 1 → IVec S16 32) a x).toNat < S2176.size a := fun v354 k0_hw187 => k0_hw187
def k0_off189 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c14_i32_146 : BitVec 32 := 14#32
  let v355 : BitVec 32 := Scalar.addi v59 c14_i32_146
  let v356 : Index := Scalar.indexCast v355
  let c48_147 : Index := 48#32
  ![v356.toNat, 48]

def k0_chk188 (v359 : IVec S16 32) : Prop :=
  (∀ a x, ((![v359] : Fin 1 → IVec S16 32) a x).toNat < S2176.size a)
theorem k0_idx188_inb : ∀ (v359 : IVec S16 32) (k0_hw188 : k0_chk188 v359), ∀ a x, ((![v359] : Fin 1 → IVec S16 32) a x).toNat < S2176.size a := fun v359 k0_hw188 => k0_hw188
def k0_off190 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c15_i32 : BitVec 32 := 15#32
  let v360 : BitVec 32 := Scalar.addi v59 c15_i32
  let v361 : Index := Scalar.indexCast v360
  let c0_148 : Index := 0#32
  ![v361.toNat, 0]

def k0_chk189 (v364 : IVec S16 32) : Prop :=
  (∀ a x, ((![v364] : Fin 1 → IVec S16 32) a x).toNat < S2176.size a)
theorem k0_idx189_inb : ∀ (v364 : IVec S16 32) (k0_hw189 : k0_chk189 v364), ∀ a x, ((![v364] : Fin 1 → IVec S16 32) a x).toNat < S2176.size a := fun v364 k0_hw189 => k0_hw189
def k0_off191 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c15_i32_150 : BitVec 32 := 15#32
  let v365 : BitVec 32 := Scalar.addi v59 c15_i32_150
  let v366 : Index := Scalar.indexCast v365
  let c16_151 : Index := 16#32
  ![v366.toNat, 16]

def k0_chk190 (v369 : IVec S16 32) : Prop :=
  (∀ a x, ((![v369] : Fin 1 → IVec S16 32) a x).toNat < S2176.size a)
theorem k0_idx190_inb : ∀ (v369 : IVec S16 32) (k0_hw190 : k0_chk190 v369), ∀ a x, ((![v369] : Fin 1 → IVec S16 32) a x).toNat < S2176.size a := fun v369 k0_hw190 => k0_hw190
def k0_off192 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c15_i32_152 : BitVec 32 := 15#32
  let v370 : BitVec 32 := Scalar.addi v59 c15_i32_152
  let v371 : Index := Scalar.indexCast v370
  let c32_153 : Index := 32#32
  ![v371.toNat, 32]

def k0_chk191 (v374 : IVec S16 32) : Prop :=
  (∀ a x, ((![v374] : Fin 1 → IVec S16 32) a x).toNat < S2176.size a)
theorem k0_idx191_inb : ∀ (v374 : IVec S16 32) (k0_hw191 : k0_chk191 v374), ∀ a x, ((![v374] : Fin 1 → IVec S16 32) a x).toNat < S2176.size a := fun v374 k0_hw191 => k0_hw191
def k0_off193 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_26 : BitVec 32 := 2#32
  let v58 : BitVec 32 := Scalar.muli arg10 c2_i32_26
  let c16_i32 : BitVec 32 := 16#32
  let v59 : BitVec 32 := Scalar.muli v58 c16_i32
  let c15_i32_154 : BitVec 32 := 15#32
  let v375 : BitVec 32 := Scalar.addi v59 c15_i32_154
  let v376 : Index := Scalar.indexCast v375
  let c48_155 : Index := 48#32
  ![v376.toNat, 48]

def k0_chk192 (v379 : IVec S16 32) : Prop :=
  (∀ a x, ((![v379] : Fin 1 → IVec S16 32) a x).toNat < S2176.size a)
theorem k0_idx192_inb : ∀ (v379 : IVec S16 32) (k0_hw192 : k0_chk192 v379), ∀ a x, ((![v379] : Fin 1 → IVec S16 32) a x).toNat < S2176.size a := fun v379 k0_hw192 => k0_hw192
def k0_off194 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c0_i32_159 : BitVec 32 := 0#32
  let v383 : BitVec 32 := Scalar.addi v382 c0_i32_159
  let v384 : Index := Scalar.indexCast v383
  let c0_160 : Index := 0#32
  ![v384.toNat, 0]

def k0_chk193 (v387 : IVec S16 32) : Prop :=
  (∀ a x, ((![v387] : Fin 1 → IVec S16 32) a x).toNat < S2176.size a)
theorem k0_idx193_inb : ∀ (v387 : IVec S16 32) (k0_hw193 : k0_chk193 v387), ∀ a x, ((![v387] : Fin 1 → IVec S16 32) a x).toNat < S2176.size a := fun v387 k0_hw193 => k0_hw193
def k0_off195 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c0_i32_161 : BitVec 32 := 0#32
  let v388 : BitVec 32 := Scalar.addi v382 c0_i32_161
  let v389 : Index := Scalar.indexCast v388
  let c16_162 : Index := 16#32
  ![v389.toNat, 16]

def k0_chk194 (v392 : IVec S16 32) : Prop :=
  (∀ a x, ((![v392] : Fin 1 → IVec S16 32) a x).toNat < S2176.size a)
theorem k0_idx194_inb : ∀ (v392 : IVec S16 32) (k0_hw194 : k0_chk194 v392), ∀ a x, ((![v392] : Fin 1 → IVec S16 32) a x).toNat < S2176.size a := fun v392 k0_hw194 => k0_hw194
def k0_off196 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c0_i32_163 : BitVec 32 := 0#32
  let v393 : BitVec 32 := Scalar.addi v382 c0_i32_163
  let v394 : Index := Scalar.indexCast v393
  let c32_164 : Index := 32#32
  ![v394.toNat, 32]

def k0_chk195 (v397 : IVec S16 32) : Prop :=
  (∀ a x, ((![v397] : Fin 1 → IVec S16 32) a x).toNat < S2176.size a)
theorem k0_idx195_inb : ∀ (v397 : IVec S16 32) (k0_hw195 : k0_chk195 v397), ∀ a x, ((![v397] : Fin 1 → IVec S16 32) a x).toNat < S2176.size a := fun v397 k0_hw195 => k0_hw195
def k0_off197 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c0_i32_165 : BitVec 32 := 0#32
  let v398 : BitVec 32 := Scalar.addi v382 c0_i32_165
  let v399 : Index := Scalar.indexCast v398
  let c48_166 : Index := 48#32
  ![v399.toNat, 48]

def k0_chk196 (v402 : IVec S16 32) : Prop :=
  (∀ a x, ((![v402] : Fin 1 → IVec S16 32) a x).toNat < S2176.size a)
theorem k0_idx196_inb : ∀ (v402 : IVec S16 32) (k0_hw196 : k0_chk196 v402), ∀ a x, ((![v402] : Fin 1 → IVec S16 32) a x).toNat < S2176.size a := fun v402 k0_hw196 => k0_hw196
def k0_off198 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c1_i32_167 : BitVec 32 := 1#32
  let v403 : BitVec 32 := Scalar.addi v382 c1_i32_167
  let v404 : Index := Scalar.indexCast v403
  let c0_168 : Index := 0#32
  ![v404.toNat, 0]

def k0_chk197 (v407 : IVec S16 32) : Prop :=
  (∀ a x, ((![v407] : Fin 1 → IVec S16 32) a x).toNat < S2176.size a)
theorem k0_idx197_inb : ∀ (v407 : IVec S16 32) (k0_hw197 : k0_chk197 v407), ∀ a x, ((![v407] : Fin 1 → IVec S16 32) a x).toNat < S2176.size a := fun v407 k0_hw197 => k0_hw197
def k0_off199 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c1_i32_169 : BitVec 32 := 1#32
  let v408 : BitVec 32 := Scalar.addi v382 c1_i32_169
  let v409 : Index := Scalar.indexCast v408
  let c16_170 : Index := 16#32
  ![v409.toNat, 16]

def k0_chk198 (v412 : IVec S16 32) : Prop :=
  (∀ a x, ((![v412] : Fin 1 → IVec S16 32) a x).toNat < S2176.size a)
theorem k0_idx198_inb : ∀ (v412 : IVec S16 32) (k0_hw198 : k0_chk198 v412), ∀ a x, ((![v412] : Fin 1 → IVec S16 32) a x).toNat < S2176.size a := fun v412 k0_hw198 => k0_hw198
def k0_off200 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c1_i32_171 : BitVec 32 := 1#32
  let v413 : BitVec 32 := Scalar.addi v382 c1_i32_171
  let v414 : Index := Scalar.indexCast v413
  let c32_172 : Index := 32#32
  ![v414.toNat, 32]

def k0_chk199 (v417 : IVec S16 32) : Prop :=
  (∀ a x, ((![v417] : Fin 1 → IVec S16 32) a x).toNat < S2176.size a)
theorem k0_idx199_inb : ∀ (v417 : IVec S16 32) (k0_hw199 : k0_chk199 v417), ∀ a x, ((![v417] : Fin 1 → IVec S16 32) a x).toNat < S2176.size a := fun v417 k0_hw199 => k0_hw199
def k0_off201 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c1_i32_173 : BitVec 32 := 1#32
  let v418 : BitVec 32 := Scalar.addi v382 c1_i32_173
  let v419 : Index := Scalar.indexCast v418
  let c48_174 : Index := 48#32
  ![v419.toNat, 48]

def k0_chk200 (v422 : IVec S16 32) : Prop :=
  (∀ a x, ((![v422] : Fin 1 → IVec S16 32) a x).toNat < S2176.size a)
theorem k0_idx200_inb : ∀ (v422 : IVec S16 32) (k0_hw200 : k0_chk200 v422), ∀ a x, ((![v422] : Fin 1 → IVec S16 32) a x).toNat < S2176.size a := fun v422 k0_hw200 => k0_hw200
def k0_off202 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c2_i32_175 : BitVec 32 := 2#32
  let v423 : BitVec 32 := Scalar.addi v382 c2_i32_175
  let v424 : Index := Scalar.indexCast v423
  let c0_176 : Index := 0#32
  ![v424.toNat, 0]

def k0_chk201 (v427 : IVec S16 32) : Prop :=
  (∀ a x, ((![v427] : Fin 1 → IVec S16 32) a x).toNat < S2176.size a)
theorem k0_idx201_inb : ∀ (v427 : IVec S16 32) (k0_hw201 : k0_chk201 v427), ∀ a x, ((![v427] : Fin 1 → IVec S16 32) a x).toNat < S2176.size a := fun v427 k0_hw201 => k0_hw201
def k0_off203 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c2_i32_177 : BitVec 32 := 2#32
  let v428 : BitVec 32 := Scalar.addi v382 c2_i32_177
  let v429 : Index := Scalar.indexCast v428
  let c16_178 : Index := 16#32
  ![v429.toNat, 16]

def k0_chk202 (v432 : IVec S16 32) : Prop :=
  (∀ a x, ((![v432] : Fin 1 → IVec S16 32) a x).toNat < S2176.size a)
theorem k0_idx202_inb : ∀ (v432 : IVec S16 32) (k0_hw202 : k0_chk202 v432), ∀ a x, ((![v432] : Fin 1 → IVec S16 32) a x).toNat < S2176.size a := fun v432 k0_hw202 => k0_hw202
def k0_off204 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c2_i32_179 : BitVec 32 := 2#32
  let v433 : BitVec 32 := Scalar.addi v382 c2_i32_179
  let v434 : Index := Scalar.indexCast v433
  let c32_180 : Index := 32#32
  ![v434.toNat, 32]

def k0_chk203 (v437 : IVec S16 32) : Prop :=
  (∀ a x, ((![v437] : Fin 1 → IVec S16 32) a x).toNat < S2176.size a)
theorem k0_idx203_inb : ∀ (v437 : IVec S16 32) (k0_hw203 : k0_chk203 v437), ∀ a x, ((![v437] : Fin 1 → IVec S16 32) a x).toNat < S2176.size a := fun v437 k0_hw203 => k0_hw203
def k0_off205 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c2_i32_181 : BitVec 32 := 2#32
  let v438 : BitVec 32 := Scalar.addi v382 c2_i32_181
  let v439 : Index := Scalar.indexCast v438
  let c48_182 : Index := 48#32
  ![v439.toNat, 48]

def k0_chk204 (v442 : IVec S16 32) : Prop :=
  (∀ a x, ((![v442] : Fin 1 → IVec S16 32) a x).toNat < S2176.size a)
theorem k0_idx204_inb : ∀ (v442 : IVec S16 32) (k0_hw204 : k0_chk204 v442), ∀ a x, ((![v442] : Fin 1 → IVec S16 32) a x).toNat < S2176.size a := fun v442 k0_hw204 => k0_hw204
def k0_off206 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c3_i32_183 : BitVec 32 := 3#32
  let v443 : BitVec 32 := Scalar.addi v382 c3_i32_183
  let v444 : Index := Scalar.indexCast v443
  let c0_184 : Index := 0#32
  ![v444.toNat, 0]

def k0_chk205 (v447 : IVec S16 32) : Prop :=
  (∀ a x, ((![v447] : Fin 1 → IVec S16 32) a x).toNat < S2176.size a)
theorem k0_idx205_inb : ∀ (v447 : IVec S16 32) (k0_hw205 : k0_chk205 v447), ∀ a x, ((![v447] : Fin 1 → IVec S16 32) a x).toNat < S2176.size a := fun v447 k0_hw205 => k0_hw205
def k0_off207 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c3_i32_185 : BitVec 32 := 3#32
  let v448 : BitVec 32 := Scalar.addi v382 c3_i32_185
  let v449 : Index := Scalar.indexCast v448
  let c16_186 : Index := 16#32
  ![v449.toNat, 16]

def k0_chk206 (v452 : IVec S16 32) : Prop :=
  (∀ a x, ((![v452] : Fin 1 → IVec S16 32) a x).toNat < S2176.size a)
theorem k0_idx206_inb : ∀ (v452 : IVec S16 32) (k0_hw206 : k0_chk206 v452), ∀ a x, ((![v452] : Fin 1 → IVec S16 32) a x).toNat < S2176.size a := fun v452 k0_hw206 => k0_hw206
def k0_off208 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c3_i32_187 : BitVec 32 := 3#32
  let v453 : BitVec 32 := Scalar.addi v382 c3_i32_187
  let v454 : Index := Scalar.indexCast v453
  let c32_188 : Index := 32#32
  ![v454.toNat, 32]

def k0_chk207 (v457 : IVec S16 32) : Prop :=
  (∀ a x, ((![v457] : Fin 1 → IVec S16 32) a x).toNat < S2176.size a)
theorem k0_idx207_inb : ∀ (v457 : IVec S16 32) (k0_hw207 : k0_chk207 v457), ∀ a x, ((![v457] : Fin 1 → IVec S16 32) a x).toNat < S2176.size a := fun v457 k0_hw207 => k0_hw207
def k0_off209 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c3_i32_189 : BitVec 32 := 3#32
  let v458 : BitVec 32 := Scalar.addi v382 c3_i32_189
  let v459 : Index := Scalar.indexCast v458
  let c48_190 : Index := 48#32
  ![v459.toNat, 48]

def k0_chk208 (v462 : IVec S16 32) : Prop :=
  (∀ a x, ((![v462] : Fin 1 → IVec S16 32) a x).toNat < S2176.size a)
theorem k0_idx208_inb : ∀ (v462 : IVec S16 32) (k0_hw208 : k0_chk208 v462), ∀ a x, ((![v462] : Fin 1 → IVec S16 32) a x).toNat < S2176.size a := fun v462 k0_hw208 => k0_hw208
def k0_off210 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c4_i32_191 : BitVec 32 := 4#32
  let v463 : BitVec 32 := Scalar.addi v382 c4_i32_191
  let v464 : Index := Scalar.indexCast v463
  let c0_192 : Index := 0#32
  ![v464.toNat, 0]

def k0_chk209 (v467 : IVec S16 32) : Prop :=
  (∀ a x, ((![v467] : Fin 1 → IVec S16 32) a x).toNat < S2176.size a)
theorem k0_idx209_inb : ∀ (v467 : IVec S16 32) (k0_hw209 : k0_chk209 v467), ∀ a x, ((![v467] : Fin 1 → IVec S16 32) a x).toNat < S2176.size a := fun v467 k0_hw209 => k0_hw209
def k0_off211 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c4_i32_193 : BitVec 32 := 4#32
  let v468 : BitVec 32 := Scalar.addi v382 c4_i32_193
  let v469 : Index := Scalar.indexCast v468
  let c16_194 : Index := 16#32
  ![v469.toNat, 16]

def k0_chk210 (v472 : IVec S16 32) : Prop :=
  (∀ a x, ((![v472] : Fin 1 → IVec S16 32) a x).toNat < S2176.size a)
theorem k0_idx210_inb : ∀ (v472 : IVec S16 32) (k0_hw210 : k0_chk210 v472), ∀ a x, ((![v472] : Fin 1 → IVec S16 32) a x).toNat < S2176.size a := fun v472 k0_hw210 => k0_hw210
def k0_off212 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c4_i32_195 : BitVec 32 := 4#32
  let v473 : BitVec 32 := Scalar.addi v382 c4_i32_195
  let v474 : Index := Scalar.indexCast v473
  let c32_196 : Index := 32#32
  ![v474.toNat, 32]

def k0_chk211 (v477 : IVec S16 32) : Prop :=
  (∀ a x, ((![v477] : Fin 1 → IVec S16 32) a x).toNat < S2176.size a)
theorem k0_idx211_inb : ∀ (v477 : IVec S16 32) (k0_hw211 : k0_chk211 v477), ∀ a x, ((![v477] : Fin 1 → IVec S16 32) a x).toNat < S2176.size a := fun v477 k0_hw211 => k0_hw211
def k0_off213 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c4_i32_197 : BitVec 32 := 4#32
  let v478 : BitVec 32 := Scalar.addi v382 c4_i32_197
  let v479 : Index := Scalar.indexCast v478
  let c48_198 : Index := 48#32
  ![v479.toNat, 48]

def k0_chk212 (v482 : IVec S16 32) : Prop :=
  (∀ a x, ((![v482] : Fin 1 → IVec S16 32) a x).toNat < S2176.size a)
theorem k0_idx212_inb : ∀ (v482 : IVec S16 32) (k0_hw212 : k0_chk212 v482), ∀ a x, ((![v482] : Fin 1 → IVec S16 32) a x).toNat < S2176.size a := fun v482 k0_hw212 => k0_hw212
def k0_off214 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c5_i32_199 : BitVec 32 := 5#32
  let v483 : BitVec 32 := Scalar.addi v382 c5_i32_199
  let v484 : Index := Scalar.indexCast v483
  let c0_200 : Index := 0#32
  ![v484.toNat, 0]

def k0_chk213 (v487 : IVec S16 32) : Prop :=
  (∀ a x, ((![v487] : Fin 1 → IVec S16 32) a x).toNat < S2176.size a)
theorem k0_idx213_inb : ∀ (v487 : IVec S16 32) (k0_hw213 : k0_chk213 v487), ∀ a x, ((![v487] : Fin 1 → IVec S16 32) a x).toNat < S2176.size a := fun v487 k0_hw213 => k0_hw213
def k0_off215 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c5_i32_201 : BitVec 32 := 5#32
  let v488 : BitVec 32 := Scalar.addi v382 c5_i32_201
  let v489 : Index := Scalar.indexCast v488
  let c16_202 : Index := 16#32
  ![v489.toNat, 16]

def k0_chk214 (v492 : IVec S16 32) : Prop :=
  (∀ a x, ((![v492] : Fin 1 → IVec S16 32) a x).toNat < S2176.size a)
theorem k0_idx214_inb : ∀ (v492 : IVec S16 32) (k0_hw214 : k0_chk214 v492), ∀ a x, ((![v492] : Fin 1 → IVec S16 32) a x).toNat < S2176.size a := fun v492 k0_hw214 => k0_hw214
def k0_off216 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c5_i32_203 : BitVec 32 := 5#32
  let v493 : BitVec 32 := Scalar.addi v382 c5_i32_203
  let v494 : Index := Scalar.indexCast v493
  let c32_204 : Index := 32#32
  ![v494.toNat, 32]

def k0_chk215 (v497 : IVec S16 32) : Prop :=
  (∀ a x, ((![v497] : Fin 1 → IVec S16 32) a x).toNat < S2176.size a)
theorem k0_idx215_inb : ∀ (v497 : IVec S16 32) (k0_hw215 : k0_chk215 v497), ∀ a x, ((![v497] : Fin 1 → IVec S16 32) a x).toNat < S2176.size a := fun v497 k0_hw215 => k0_hw215
def k0_off217 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c5_i32_205 : BitVec 32 := 5#32
  let v498 : BitVec 32 := Scalar.addi v382 c5_i32_205
  let v499 : Index := Scalar.indexCast v498
  let c48_206 : Index := 48#32
  ![v499.toNat, 48]

def k0_chk216 (v502 : IVec S16 32) : Prop :=
  (∀ a x, ((![v502] : Fin 1 → IVec S16 32) a x).toNat < S2176.size a)
theorem k0_idx216_inb : ∀ (v502 : IVec S16 32) (k0_hw216 : k0_chk216 v502), ∀ a x, ((![v502] : Fin 1 → IVec S16 32) a x).toNat < S2176.size a := fun v502 k0_hw216 => k0_hw216
def k0_off218 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c6_i32_207 : BitVec 32 := 6#32
  let v503 : BitVec 32 := Scalar.addi v382 c6_i32_207
  let v504 : Index := Scalar.indexCast v503
  let c0_208 : Index := 0#32
  ![v504.toNat, 0]

def k0_chk217 (v507 : IVec S16 32) : Prop :=
  (∀ a x, ((![v507] : Fin 1 → IVec S16 32) a x).toNat < S2176.size a)
theorem k0_idx217_inb : ∀ (v507 : IVec S16 32) (k0_hw217 : k0_chk217 v507), ∀ a x, ((![v507] : Fin 1 → IVec S16 32) a x).toNat < S2176.size a := fun v507 k0_hw217 => k0_hw217
def k0_off219 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c6_i32_209 : BitVec 32 := 6#32
  let v508 : BitVec 32 := Scalar.addi v382 c6_i32_209
  let v509 : Index := Scalar.indexCast v508
  let c16_210 : Index := 16#32
  ![v509.toNat, 16]

def k0_chk218 (v512 : IVec S16 32) : Prop :=
  (∀ a x, ((![v512] : Fin 1 → IVec S16 32) a x).toNat < S2176.size a)
theorem k0_idx218_inb : ∀ (v512 : IVec S16 32) (k0_hw218 : k0_chk218 v512), ∀ a x, ((![v512] : Fin 1 → IVec S16 32) a x).toNat < S2176.size a := fun v512 k0_hw218 => k0_hw218
def k0_off220 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c6_i32_211 : BitVec 32 := 6#32
  let v513 : BitVec 32 := Scalar.addi v382 c6_i32_211
  let v514 : Index := Scalar.indexCast v513
  let c32_212 : Index := 32#32
  ![v514.toNat, 32]

def k0_chk219 (v517 : IVec S16 32) : Prop :=
  (∀ a x, ((![v517] : Fin 1 → IVec S16 32) a x).toNat < S2176.size a)
theorem k0_idx219_inb : ∀ (v517 : IVec S16 32) (k0_hw219 : k0_chk219 v517), ∀ a x, ((![v517] : Fin 1 → IVec S16 32) a x).toNat < S2176.size a := fun v517 k0_hw219 => k0_hw219
def k0_off221 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c6_i32_213 : BitVec 32 := 6#32
  let v518 : BitVec 32 := Scalar.addi v382 c6_i32_213
  let v519 : Index := Scalar.indexCast v518
  let c48_214 : Index := 48#32
  ![v519.toNat, 48]

def k0_chk220 (v522 : IVec S16 32) : Prop :=
  (∀ a x, ((![v522] : Fin 1 → IVec S16 32) a x).toNat < S2176.size a)
theorem k0_idx220_inb : ∀ (v522 : IVec S16 32) (k0_hw220 : k0_chk220 v522), ∀ a x, ((![v522] : Fin 1 → IVec S16 32) a x).toNat < S2176.size a := fun v522 k0_hw220 => k0_hw220
def k0_off222 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c7_i32_215 : BitVec 32 := 7#32
  let v523 : BitVec 32 := Scalar.addi v382 c7_i32_215
  let v524 : Index := Scalar.indexCast v523
  let c0_216 : Index := 0#32
  ![v524.toNat, 0]

def k0_chk221 (v527 : IVec S16 32) : Prop :=
  (∀ a x, ((![v527] : Fin 1 → IVec S16 32) a x).toNat < S2176.size a)
theorem k0_idx221_inb : ∀ (v527 : IVec S16 32) (k0_hw221 : k0_chk221 v527), ∀ a x, ((![v527] : Fin 1 → IVec S16 32) a x).toNat < S2176.size a := fun v527 k0_hw221 => k0_hw221
def k0_off223 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c7_i32_217 : BitVec 32 := 7#32
  let v528 : BitVec 32 := Scalar.addi v382 c7_i32_217
  let v529 : Index := Scalar.indexCast v528
  let c16_218 : Index := 16#32
  ![v529.toNat, 16]

def k0_chk222 (v532 : IVec S16 32) : Prop :=
  (∀ a x, ((![v532] : Fin 1 → IVec S16 32) a x).toNat < S2176.size a)
theorem k0_idx222_inb : ∀ (v532 : IVec S16 32) (k0_hw222 : k0_chk222 v532), ∀ a x, ((![v532] : Fin 1 → IVec S16 32) a x).toNat < S2176.size a := fun v532 k0_hw222 => k0_hw222
def k0_off224 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c7_i32_219 : BitVec 32 := 7#32
  let v533 : BitVec 32 := Scalar.addi v382 c7_i32_219
  let v534 : Index := Scalar.indexCast v533
  let c32_220 : Index := 32#32
  ![v534.toNat, 32]

def k0_chk223 (v537 : IVec S16 32) : Prop :=
  (∀ a x, ((![v537] : Fin 1 → IVec S16 32) a x).toNat < S2176.size a)
theorem k0_idx223_inb : ∀ (v537 : IVec S16 32) (k0_hw223 : k0_chk223 v537), ∀ a x, ((![v537] : Fin 1 → IVec S16 32) a x).toNat < S2176.size a := fun v537 k0_hw223 => k0_hw223
def k0_off225 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c7_i32_221 : BitVec 32 := 7#32
  let v538 : BitVec 32 := Scalar.addi v382 c7_i32_221
  let v539 : Index := Scalar.indexCast v538
  let c48_222 : Index := 48#32
  ![v539.toNat, 48]

def k0_chk224 (v542 : IVec S16 32) : Prop :=
  (∀ a x, ((![v542] : Fin 1 → IVec S16 32) a x).toNat < S2176.size a)
theorem k0_idx224_inb : ∀ (v542 : IVec S16 32) (k0_hw224 : k0_chk224 v542), ∀ a x, ((![v542] : Fin 1 → IVec S16 32) a x).toNat < S2176.size a := fun v542 k0_hw224 => k0_hw224
def k0_off226 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c8_i32_223 : BitVec 32 := 8#32
  let v543 : BitVec 32 := Scalar.addi v382 c8_i32_223
  let v544 : Index := Scalar.indexCast v543
  let c0_224 : Index := 0#32
  ![v544.toNat, 0]

def k0_chk225 (v547 : IVec S16 32) : Prop :=
  (∀ a x, ((![v547] : Fin 1 → IVec S16 32) a x).toNat < S2176.size a)
theorem k0_idx225_inb : ∀ (v547 : IVec S16 32) (k0_hw225 : k0_chk225 v547), ∀ a x, ((![v547] : Fin 1 → IVec S16 32) a x).toNat < S2176.size a := fun v547 k0_hw225 => k0_hw225
def k0_off227 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c8_i32_225 : BitVec 32 := 8#32
  let v548 : BitVec 32 := Scalar.addi v382 c8_i32_225
  let v549 : Index := Scalar.indexCast v548
  let c16_226 : Index := 16#32
  ![v549.toNat, 16]

def k0_chk226 (v552 : IVec S16 32) : Prop :=
  (∀ a x, ((![v552] : Fin 1 → IVec S16 32) a x).toNat < S2176.size a)
theorem k0_idx226_inb : ∀ (v552 : IVec S16 32) (k0_hw226 : k0_chk226 v552), ∀ a x, ((![v552] : Fin 1 → IVec S16 32) a x).toNat < S2176.size a := fun v552 k0_hw226 => k0_hw226
def k0_off228 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c8_i32_227 : BitVec 32 := 8#32
  let v553 : BitVec 32 := Scalar.addi v382 c8_i32_227
  let v554 : Index := Scalar.indexCast v553
  let c32_228 : Index := 32#32
  ![v554.toNat, 32]

def k0_chk227 (v557 : IVec S16 32) : Prop :=
  (∀ a x, ((![v557] : Fin 1 → IVec S16 32) a x).toNat < S2176.size a)
theorem k0_idx227_inb : ∀ (v557 : IVec S16 32) (k0_hw227 : k0_chk227 v557), ∀ a x, ((![v557] : Fin 1 → IVec S16 32) a x).toNat < S2176.size a := fun v557 k0_hw227 => k0_hw227
def k0_off229 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c8_i32_229 : BitVec 32 := 8#32
  let v558 : BitVec 32 := Scalar.addi v382 c8_i32_229
  let v559 : Index := Scalar.indexCast v558
  let c48_230 : Index := 48#32
  ![v559.toNat, 48]

def k0_chk228 (v562 : IVec S16 32) : Prop :=
  (∀ a x, ((![v562] : Fin 1 → IVec S16 32) a x).toNat < S2176.size a)
theorem k0_idx228_inb : ∀ (v562 : IVec S16 32) (k0_hw228 : k0_chk228 v562), ∀ a x, ((![v562] : Fin 1 → IVec S16 32) a x).toNat < S2176.size a := fun v562 k0_hw228 => k0_hw228
def k0_off230 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c9_i32_231 : BitVec 32 := 9#32
  let v563 : BitVec 32 := Scalar.addi v382 c9_i32_231
  let v564 : Index := Scalar.indexCast v563
  let c0_232 : Index := 0#32
  ![v564.toNat, 0]

def k0_chk229 (v567 : IVec S16 32) : Prop :=
  (∀ a x, ((![v567] : Fin 1 → IVec S16 32) a x).toNat < S2176.size a)
theorem k0_idx229_inb : ∀ (v567 : IVec S16 32) (k0_hw229 : k0_chk229 v567), ∀ a x, ((![v567] : Fin 1 → IVec S16 32) a x).toNat < S2176.size a := fun v567 k0_hw229 => k0_hw229
def k0_off231 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c9_i32_233 : BitVec 32 := 9#32
  let v568 : BitVec 32 := Scalar.addi v382 c9_i32_233
  let v569 : Index := Scalar.indexCast v568
  let c16_234 : Index := 16#32
  ![v569.toNat, 16]

def k0_chk230 (v572 : IVec S16 32) : Prop :=
  (∀ a x, ((![v572] : Fin 1 → IVec S16 32) a x).toNat < S2176.size a)
theorem k0_idx230_inb : ∀ (v572 : IVec S16 32) (k0_hw230 : k0_chk230 v572), ∀ a x, ((![v572] : Fin 1 → IVec S16 32) a x).toNat < S2176.size a := fun v572 k0_hw230 => k0_hw230
def k0_off232 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c9_i32_235 : BitVec 32 := 9#32
  let v573 : BitVec 32 := Scalar.addi v382 c9_i32_235
  let v574 : Index := Scalar.indexCast v573
  let c32_236 : Index := 32#32
  ![v574.toNat, 32]

def k0_chk231 (v577 : IVec S16 32) : Prop :=
  (∀ a x, ((![v577] : Fin 1 → IVec S16 32) a x).toNat < S2176.size a)
theorem k0_idx231_inb : ∀ (v577 : IVec S16 32) (k0_hw231 : k0_chk231 v577), ∀ a x, ((![v577] : Fin 1 → IVec S16 32) a x).toNat < S2176.size a := fun v577 k0_hw231 => k0_hw231
def k0_off233 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c9_i32_237 : BitVec 32 := 9#32
  let v578 : BitVec 32 := Scalar.addi v382 c9_i32_237
  let v579 : Index := Scalar.indexCast v578
  let c48_238 : Index := 48#32
  ![v579.toNat, 48]

def k0_chk232 (v582 : IVec S16 32) : Prop :=
  (∀ a x, ((![v582] : Fin 1 → IVec S16 32) a x).toNat < S2176.size a)
theorem k0_idx232_inb : ∀ (v582 : IVec S16 32) (k0_hw232 : k0_chk232 v582), ∀ a x, ((![v582] : Fin 1 → IVec S16 32) a x).toNat < S2176.size a := fun v582 k0_hw232 => k0_hw232
def k0_off234 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c10_i32_239 : BitVec 32 := 10#32
  let v583 : BitVec 32 := Scalar.addi v382 c10_i32_239
  let v584 : Index := Scalar.indexCast v583
  let c0_240 : Index := 0#32
  ![v584.toNat, 0]

def k0_chk233 (v587 : IVec S16 32) : Prop :=
  (∀ a x, ((![v587] : Fin 1 → IVec S16 32) a x).toNat < S2176.size a)
theorem k0_idx233_inb : ∀ (v587 : IVec S16 32) (k0_hw233 : k0_chk233 v587), ∀ a x, ((![v587] : Fin 1 → IVec S16 32) a x).toNat < S2176.size a := fun v587 k0_hw233 => k0_hw233
def k0_off235 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c10_i32_241 : BitVec 32 := 10#32
  let v588 : BitVec 32 := Scalar.addi v382 c10_i32_241
  let v589 : Index := Scalar.indexCast v588
  let c16_242 : Index := 16#32
  ![v589.toNat, 16]

def k0_chk234 (v592 : IVec S16 32) : Prop :=
  (∀ a x, ((![v592] : Fin 1 → IVec S16 32) a x).toNat < S2176.size a)
theorem k0_idx234_inb : ∀ (v592 : IVec S16 32) (k0_hw234 : k0_chk234 v592), ∀ a x, ((![v592] : Fin 1 → IVec S16 32) a x).toNat < S2176.size a := fun v592 k0_hw234 => k0_hw234
def k0_off236 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c10_i32_243 : BitVec 32 := 10#32
  let v593 : BitVec 32 := Scalar.addi v382 c10_i32_243
  let v594 : Index := Scalar.indexCast v593
  let c32_244 : Index := 32#32
  ![v594.toNat, 32]

def k0_chk235 (v597 : IVec S16 32) : Prop :=
  (∀ a x, ((![v597] : Fin 1 → IVec S16 32) a x).toNat < S2176.size a)
theorem k0_idx235_inb : ∀ (v597 : IVec S16 32) (k0_hw235 : k0_chk235 v597), ∀ a x, ((![v597] : Fin 1 → IVec S16 32) a x).toNat < S2176.size a := fun v597 k0_hw235 => k0_hw235
def k0_off237 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c10_i32_245 : BitVec 32 := 10#32
  let v598 : BitVec 32 := Scalar.addi v382 c10_i32_245
  let v599 : Index := Scalar.indexCast v598
  let c48_246 : Index := 48#32
  ![v599.toNat, 48]

def k0_chk236 (v602 : IVec S16 32) : Prop :=
  (∀ a x, ((![v602] : Fin 1 → IVec S16 32) a x).toNat < S2176.size a)
theorem k0_idx236_inb : ∀ (v602 : IVec S16 32) (k0_hw236 : k0_chk236 v602), ∀ a x, ((![v602] : Fin 1 → IVec S16 32) a x).toNat < S2176.size a := fun v602 k0_hw236 => k0_hw236
def k0_off238 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c11_i32_247 : BitVec 32 := 11#32
  let v603 : BitVec 32 := Scalar.addi v382 c11_i32_247
  let v604 : Index := Scalar.indexCast v603
  let c0_248 : Index := 0#32
  ![v604.toNat, 0]

def k0_chk237 (v607 : IVec S16 32) : Prop :=
  (∀ a x, ((![v607] : Fin 1 → IVec S16 32) a x).toNat < S2176.size a)
theorem k0_idx237_inb : ∀ (v607 : IVec S16 32) (k0_hw237 : k0_chk237 v607), ∀ a x, ((![v607] : Fin 1 → IVec S16 32) a x).toNat < S2176.size a := fun v607 k0_hw237 => k0_hw237
def k0_off239 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c11_i32_249 : BitVec 32 := 11#32
  let v608 : BitVec 32 := Scalar.addi v382 c11_i32_249
  let v609 : Index := Scalar.indexCast v608
  let c16_250 : Index := 16#32
  ![v609.toNat, 16]

def k0_chk238 (v612 : IVec S16 32) : Prop :=
  (∀ a x, ((![v612] : Fin 1 → IVec S16 32) a x).toNat < S2176.size a)
theorem k0_idx238_inb : ∀ (v612 : IVec S16 32) (k0_hw238 : k0_chk238 v612), ∀ a x, ((![v612] : Fin 1 → IVec S16 32) a x).toNat < S2176.size a := fun v612 k0_hw238 => k0_hw238
def k0_off240 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c11_i32_251 : BitVec 32 := 11#32
  let v613 : BitVec 32 := Scalar.addi v382 c11_i32_251
  let v614 : Index := Scalar.indexCast v613
  let c32_252 : Index := 32#32
  ![v614.toNat, 32]

def k0_chk239 (v617 : IVec S16 32) : Prop :=
  (∀ a x, ((![v617] : Fin 1 → IVec S16 32) a x).toNat < S2176.size a)
theorem k0_idx239_inb : ∀ (v617 : IVec S16 32) (k0_hw239 : k0_chk239 v617), ∀ a x, ((![v617] : Fin 1 → IVec S16 32) a x).toNat < S2176.size a := fun v617 k0_hw239 => k0_hw239
def k0_off241 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c11_i32_253 : BitVec 32 := 11#32
  let v618 : BitVec 32 := Scalar.addi v382 c11_i32_253
  let v619 : Index := Scalar.indexCast v618
  let c48_254 : Index := 48#32
  ![v619.toNat, 48]

def k0_chk240 (v622 : IVec S16 32) : Prop :=
  (∀ a x, ((![v622] : Fin 1 → IVec S16 32) a x).toNat < S2176.size a)
theorem k0_idx240_inb : ∀ (v622 : IVec S16 32) (k0_hw240 : k0_chk240 v622), ∀ a x, ((![v622] : Fin 1 → IVec S16 32) a x).toNat < S2176.size a := fun v622 k0_hw240 => k0_hw240
def k0_off242 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c12_i32_255 : BitVec 32 := 12#32
  let v623 : BitVec 32 := Scalar.addi v382 c12_i32_255
  let v624 : Index := Scalar.indexCast v623
  let c0_256 : Index := 0#32
  ![v624.toNat, 0]

def k0_chk241 (v627 : IVec S16 32) : Prop :=
  (∀ a x, ((![v627] : Fin 1 → IVec S16 32) a x).toNat < S2176.size a)
theorem k0_idx241_inb : ∀ (v627 : IVec S16 32) (k0_hw241 : k0_chk241 v627), ∀ a x, ((![v627] : Fin 1 → IVec S16 32) a x).toNat < S2176.size a := fun v627 k0_hw241 => k0_hw241
def k0_off243 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c12_i32_257 : BitVec 32 := 12#32
  let v628 : BitVec 32 := Scalar.addi v382 c12_i32_257
  let v629 : Index := Scalar.indexCast v628
  let c16_258 : Index := 16#32
  ![v629.toNat, 16]

def k0_chk242 (v632 : IVec S16 32) : Prop :=
  (∀ a x, ((![v632] : Fin 1 → IVec S16 32) a x).toNat < S2176.size a)
theorem k0_idx242_inb : ∀ (v632 : IVec S16 32) (k0_hw242 : k0_chk242 v632), ∀ a x, ((![v632] : Fin 1 → IVec S16 32) a x).toNat < S2176.size a := fun v632 k0_hw242 => k0_hw242
def k0_off244 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c12_i32_259 : BitVec 32 := 12#32
  let v633 : BitVec 32 := Scalar.addi v382 c12_i32_259
  let v634 : Index := Scalar.indexCast v633
  let c32_260 : Index := 32#32
  ![v634.toNat, 32]

def k0_chk243 (v637 : IVec S16 32) : Prop :=
  (∀ a x, ((![v637] : Fin 1 → IVec S16 32) a x).toNat < S2176.size a)
theorem k0_idx243_inb : ∀ (v637 : IVec S16 32) (k0_hw243 : k0_chk243 v637), ∀ a x, ((![v637] : Fin 1 → IVec S16 32) a x).toNat < S2176.size a := fun v637 k0_hw243 => k0_hw243
def k0_off245 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c12_i32_261 : BitVec 32 := 12#32
  let v638 : BitVec 32 := Scalar.addi v382 c12_i32_261
  let v639 : Index := Scalar.indexCast v638
  let c48_262 : Index := 48#32
  ![v639.toNat, 48]

def k0_chk244 (v642 : IVec S16 32) : Prop :=
  (∀ a x, ((![v642] : Fin 1 → IVec S16 32) a x).toNat < S2176.size a)
theorem k0_idx244_inb : ∀ (v642 : IVec S16 32) (k0_hw244 : k0_chk244 v642), ∀ a x, ((![v642] : Fin 1 → IVec S16 32) a x).toNat < S2176.size a := fun v642 k0_hw244 => k0_hw244
def k0_off246 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c13_i32_263 : BitVec 32 := 13#32
  let v643 : BitVec 32 := Scalar.addi v382 c13_i32_263
  let v644 : Index := Scalar.indexCast v643
  let c0_264 : Index := 0#32
  ![v644.toNat, 0]

def k0_chk245 (v647 : IVec S16 32) : Prop :=
  (∀ a x, ((![v647] : Fin 1 → IVec S16 32) a x).toNat < S2176.size a)
theorem k0_idx245_inb : ∀ (v647 : IVec S16 32) (k0_hw245 : k0_chk245 v647), ∀ a x, ((![v647] : Fin 1 → IVec S16 32) a x).toNat < S2176.size a := fun v647 k0_hw245 => k0_hw245
def k0_off247 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c13_i32_265 : BitVec 32 := 13#32
  let v648 : BitVec 32 := Scalar.addi v382 c13_i32_265
  let v649 : Index := Scalar.indexCast v648
  let c16_266 : Index := 16#32
  ![v649.toNat, 16]

def k0_chk246 (v652 : IVec S16 32) : Prop :=
  (∀ a x, ((![v652] : Fin 1 → IVec S16 32) a x).toNat < S2176.size a)
theorem k0_idx246_inb : ∀ (v652 : IVec S16 32) (k0_hw246 : k0_chk246 v652), ∀ a x, ((![v652] : Fin 1 → IVec S16 32) a x).toNat < S2176.size a := fun v652 k0_hw246 => k0_hw246
def k0_off248 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c13_i32_267 : BitVec 32 := 13#32
  let v653 : BitVec 32 := Scalar.addi v382 c13_i32_267
  let v654 : Index := Scalar.indexCast v653
  let c32_268 : Index := 32#32
  ![v654.toNat, 32]

def k0_chk247 (v657 : IVec S16 32) : Prop :=
  (∀ a x, ((![v657] : Fin 1 → IVec S16 32) a x).toNat < S2176.size a)
theorem k0_idx247_inb : ∀ (v657 : IVec S16 32) (k0_hw247 : k0_chk247 v657), ∀ a x, ((![v657] : Fin 1 → IVec S16 32) a x).toNat < S2176.size a := fun v657 k0_hw247 => k0_hw247
def k0_off249 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c13_i32_269 : BitVec 32 := 13#32
  let v658 : BitVec 32 := Scalar.addi v382 c13_i32_269
  let v659 : Index := Scalar.indexCast v658
  let c48_270 : Index := 48#32
  ![v659.toNat, 48]

def k0_chk248 (v662 : IVec S16 32) : Prop :=
  (∀ a x, ((![v662] : Fin 1 → IVec S16 32) a x).toNat < S2176.size a)
theorem k0_idx248_inb : ∀ (v662 : IVec S16 32) (k0_hw248 : k0_chk248 v662), ∀ a x, ((![v662] : Fin 1 → IVec S16 32) a x).toNat < S2176.size a := fun v662 k0_hw248 => k0_hw248
def k0_off250 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c14_i32_271 : BitVec 32 := 14#32
  let v663 : BitVec 32 := Scalar.addi v382 c14_i32_271
  let v664 : Index := Scalar.indexCast v663
  let c0_272 : Index := 0#32
  ![v664.toNat, 0]

def k0_chk249 (v667 : IVec S16 32) : Prop :=
  (∀ a x, ((![v667] : Fin 1 → IVec S16 32) a x).toNat < S2176.size a)
theorem k0_idx249_inb : ∀ (v667 : IVec S16 32) (k0_hw249 : k0_chk249 v667), ∀ a x, ((![v667] : Fin 1 → IVec S16 32) a x).toNat < S2176.size a := fun v667 k0_hw249 => k0_hw249
def k0_off251 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c14_i32_273 : BitVec 32 := 14#32
  let v668 : BitVec 32 := Scalar.addi v382 c14_i32_273
  let v669 : Index := Scalar.indexCast v668
  let c16_274 : Index := 16#32
  ![v669.toNat, 16]

def k0_chk250 (v672 : IVec S16 32) : Prop :=
  (∀ a x, ((![v672] : Fin 1 → IVec S16 32) a x).toNat < S2176.size a)
theorem k0_idx250_inb : ∀ (v672 : IVec S16 32) (k0_hw250 : k0_chk250 v672), ∀ a x, ((![v672] : Fin 1 → IVec S16 32) a x).toNat < S2176.size a := fun v672 k0_hw250 => k0_hw250
def k0_off252 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c14_i32_275 : BitVec 32 := 14#32
  let v673 : BitVec 32 := Scalar.addi v382 c14_i32_275
  let v674 : Index := Scalar.indexCast v673
  let c32_276 : Index := 32#32
  ![v674.toNat, 32]

def k0_chk251 (v677 : IVec S16 32) : Prop :=
  (∀ a x, ((![v677] : Fin 1 → IVec S16 32) a x).toNat < S2176.size a)
theorem k0_idx251_inb : ∀ (v677 : IVec S16 32) (k0_hw251 : k0_chk251 v677), ∀ a x, ((![v677] : Fin 1 → IVec S16 32) a x).toNat < S2176.size a := fun v677 k0_hw251 => k0_hw251
def k0_off253 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c14_i32_277 : BitVec 32 := 14#32
  let v678 : BitVec 32 := Scalar.addi v382 c14_i32_277
  let v679 : Index := Scalar.indexCast v678
  let c48_278 : Index := 48#32
  ![v679.toNat, 48]

def k0_chk252 (v682 : IVec S16 32) : Prop :=
  (∀ a x, ((![v682] : Fin 1 → IVec S16 32) a x).toNat < S2176.size a)
theorem k0_idx252_inb : ∀ (v682 : IVec S16 32) (k0_hw252 : k0_chk252 v682), ∀ a x, ((![v682] : Fin 1 → IVec S16 32) a x).toNat < S2176.size a := fun v682 k0_hw252 => k0_hw252
def k0_off254 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c15_i32_279 : BitVec 32 := 15#32
  let v683 : BitVec 32 := Scalar.addi v382 c15_i32_279
  let v684 : Index := Scalar.indexCast v683
  let c0_280 : Index := 0#32
  ![v684.toNat, 0]

def k0_chk253 (v687 : IVec S16 32) : Prop :=
  (∀ a x, ((![v687] : Fin 1 → IVec S16 32) a x).toNat < S2176.size a)
theorem k0_idx253_inb : ∀ (v687 : IVec S16 32) (k0_hw253 : k0_chk253 v687), ∀ a x, ((![v687] : Fin 1 → IVec S16 32) a x).toNat < S2176.size a := fun v687 k0_hw253 => k0_hw253
def k0_off255 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c15_i32_281 : BitVec 32 := 15#32
  let v688 : BitVec 32 := Scalar.addi v382 c15_i32_281
  let v689 : Index := Scalar.indexCast v688
  let c16_282 : Index := 16#32
  ![v689.toNat, 16]

def k0_chk254 (v692 : IVec S16 32) : Prop :=
  (∀ a x, ((![v692] : Fin 1 → IVec S16 32) a x).toNat < S2176.size a)
theorem k0_idx254_inb : ∀ (v692 : IVec S16 32) (k0_hw254 : k0_chk254 v692), ∀ a x, ((![v692] : Fin 1 → IVec S16 32) a x).toNat < S2176.size a := fun v692 k0_hw254 => k0_hw254
def k0_off256 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c15_i32_283 : BitVec 32 := 15#32
  let v693 : BitVec 32 := Scalar.addi v382 c15_i32_283
  let v694 : Index := Scalar.indexCast v693
  let c32_284 : Index := 32#32
  ![v694.toNat, 32]

def k0_chk255 (v697 : IVec S16 32) : Prop :=
  (∀ a x, ((![v697] : Fin 1 → IVec S16 32) a x).toNat < S2176.size a)
theorem k0_idx255_inb : ∀ (v697 : IVec S16 32) (k0_hw255 : k0_chk255 v697), ∀ a x, ((![v697] : Fin 1 → IVec S16 32) a x).toNat < S2176.size a := fun v697 k0_hw255 => k0_hw255
def k0_off257 (k0_t2 : Fin k0_t2_loop.trips) : Fin 2 → Nat :=
  let c0_i32_22 : BitVec 32 := 0#32
  let c1_i32_24 : BitVec 32 := 1#32
  let arg10 : BitVec 32 := Scf.iv c0_i32_22 c1_i32_24 k0_t2
  let c2_i32_156 : BitVec 32 := 2#32
  let v380 : BitVec 32 := Scalar.muli arg10 c2_i32_156
  let c16_i32_157 : BitVec 32 := 16#32
  let v381 : BitVec 32 := Scalar.muli v380 c16_i32_157
  let c16_i32_158 : BitVec 32 := 16#32
  let v382 : BitVec 32 := Scalar.addi v381 c16_i32_158
  let c15_i32_285 : BitVec 32 := 15#32
  let v698 : BitVec 32 := Scalar.addi v382 c15_i32_285
  let v699 : Index := Scalar.indexCast v698
  let c48_286 : Index := 48#32
  ![v699.toNat, 48]

def k0_chk256 (v702 : IVec S16 32) : Prop :=
  (∀ a x, ((![v702] : Fin 1 → IVec S16 32) a x).toNat < S2176.size a)
theorem k0_idx256_inb : ∀ (v702 : IVec S16 32) (k0_hw256 : k0_chk256 v702), ∀ a x, ((![v702] : Fin 1 → IVec S16 32) a x).toNat < S2176.size a := fun v702 k0_hw256 => k0_hw256
def k0_off258 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_26_r0 : BitVec 32 := 0#32
  ![v1.toNat, 0]
abbrev grid1 : Pipeline.Grid := ⟨1, ![32], ![false]⟩

def cc1_transform_0 (i : grid1.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x8192x64 : Shape := ⟨3, ![4, 8192, 64]⟩
abbrev S32768x64 : Shape := ⟨2, ![32768, 64]⟩
abbrev S32768x8 : Shape := ⟨2, ![32768, 8]⟩
abbrev S_ : Shape := ⟨0, ![]⟩
abbrev S32768 : Shape := ⟨1, ![32768]⟩
abbrev S32768x1 : Shape := ⟨2, ![32768, 1]⟩
abbrev S32768x8x1 : Shape := ⟨3, ![32768, 8, 1]⟩
abbrev S32768x8x1x1 : Shape := ⟨4, ![32768, 8, 1, 1]⟩
abbrev S1x1x1x64 : Shape := ⟨4, ![1, 1, 1, 64]⟩
abbrev S32768x8x1x64 : Shape := ⟨4, ![32768, 8, 1, 64]⟩
abbrev S32768x8x64 : Shape := ⟨3, ![32768, 8, 64]⟩

abbrev nBuf : Space → Nat
  | .hbm => 49
  | .vmem => 0
  | .smem => 0
  | _ => 0

abbrev bufTy : (tb : Table) → Fin (tcTables nBuf tb) → BufTy
  | .hbm, ⟨0, _⟩ => ⟨S4x8192x64, .f32⟩
  | .hbm, ⟨1, _⟩ => ⟨S32768x64, .f32⟩
  | .hbm, ⟨2, _⟩ => ⟨S32768x8, .f32⟩
  | .hbm, ⟨3, _⟩ => ⟨S32768x8, .i32⟩
  | .hbm, ⟨4, _⟩ => ⟨S_, .f32⟩
  | .hbm, ⟨5, _⟩ => ⟨S32768, .f32⟩
  | .hbm, ⟨6, _⟩ => ⟨S_, .f32⟩
  | .hbm, ⟨7, _⟩ => ⟨S32768, .f32⟩
  | .hbm, ⟨8, _⟩ => ⟨S32768, .f32⟩
  | .hbm, ⟨9, _⟩ => ⟨S32768x1, .f32⟩
  | .hbm, ⟨10, _⟩ => ⟨S32768x8, .f32⟩
  | .hbm, ⟨11, _⟩ => ⟨S32768x8, .f32⟩
  | .hbm, ⟨12, _⟩ => ⟨S32768x8, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S32768x8, .f32⟩
  | .hbm, ⟨17, _⟩ => ⟨S32768x8, .f32⟩
  | .hbm, ⟨18, _⟩ => ⟨S32768x8x1, .i32⟩
  | .hbm, ⟨19, _⟩ => ⟨S32768x8x1x1, .i32⟩
  | .hbm, ⟨20, _⟩ => ⟨S1x1x1x64, .i32⟩
  | .hbm, ⟨21, _⟩ => ⟨S32768x8x1x64, .i32⟩
  | .hbm, ⟨22, _⟩ => ⟨S32768x8x1x64, .i32⟩
  | .hbm, ⟨23, _⟩ => ⟨S32768x8x1x64, .i1⟩
  | .hbm, ⟨24, _⟩ => ⟨S32768x8x1x64, .i32⟩
  | .hbm, ⟨25, _⟩ => ⟨S_, .i32⟩
  | .hbm, ⟨26, _⟩ => ⟨S32768x8x64, .i32⟩
  | .hbm, ⟨27, _⟩ => ⟨S32768x8x64, .f32⟩
  | .hbm, ⟨28, _⟩ => ⟨S_, .f32⟩
  | .hbm, ⟨29, _⟩ => ⟨S32768x64, .f32⟩
  | .hbm, ⟨30, _⟩ => ⟨S_, .f32⟩
  | .hbm, ⟨31, _⟩ => ⟨S32768x64, .f32⟩
  | .hbm, ⟨32, _⟩ => ⟨S32768x64, .f32⟩
  | .hbm, ⟨33, _⟩ => ⟨S_, .f32⟩
  | .hbm, ⟨34, _⟩ => ⟨S32768, .f32⟩
  | .hbm, ⟨35, _⟩ => ⟨S_, .f32⟩
  | .hbm, ⟨36, _⟩ => ⟨S32768, .f32⟩
  | .hbm, ⟨37, _⟩ => ⟨S32768, .f32⟩
  | .hbm, ⟨38, _⟩ => ⟨S32768x1, .f32⟩
  | .hbm, ⟨39, _⟩ => ⟨S32768x64, .f32⟩
  | .hbm, ⟨40, _⟩ => ⟨S32768x64, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S4x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_values : Ref sig .tc := ⟨.hbm, 2, rfl⟩
abbrev main_indices : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_cst_8 : Ref sig .tc := ⟨.hbm, 45, rfl⟩
abbrev main_v27 : Ref sig .tc := ⟨.hbm, 46, rfl⟩
abbrev main_cst_9 : Ref sig .tc := ⟨.hbm, 47, rfl⟩
abbrev main_v28 : Ref sig .tc := ⟨.hbm, 48, rfl⟩

abbrev nD : Nat := 1
abbrev τ : Topo := Topo.v7x

variable {F : FTy → Type} [FloatOps F]
-- ==== Proof.Rows.lean ====
/-
  One trip of a tile's counted loop over its rows, as a program over two of the tile's buffers: the
  chunk of rows it reads (`256 x 64`) and the transposing scratch (`2176` words) it scatters 32 rows
  into and then sorts out of. The rules here run such a program one effect at a time and keep just
  what the result needs: which words of the scratch hold a GOOD value already. What "good" means is a
  parameter (`Vals`): nothing at all for the frame, "a real number" for the value.
-/
module

public import Idealize.ShloMosaic.Lib.SparseCore.Ops
public import Idealize.ShloMosaic.Lib.Tactic
public import proofs.«01_k».proof.Proof.Gen.KernelIdeal
public import proofs.«01_k».proof.Proof.Gen.KernelIdeal.Skeleton

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- One row's contribution, as every kernel in this problem computes it from the row's eight largest
    entries `m 0, …, m 7`: with `s j = exp (m j - m 0)` (and `s 0` given), the sum of `s j / tot`,
    `tot` the sum of the `s j`, times `c`. -/
def share (c s0 : F .f32) (m : Fin 8 → F .f32) : F .f32 :=
  let s : Fin 8 → F .f32 := fun j => FloatOps.exp (FloatOps.subf (m j) (m 0))
  let tot := FloatOps.addf (FloatOps.addf (FloatOps.addf (FloatOps.addf (FloatOps.addf (FloatOps.addf (FloatOps.addf
    s0 (s 1)) (s 2)) (s 3)) (s 4)) (s 5)) (s 6)) (s 7)
  FloatOps.mulf (FloatOps.addf (FloatOps.addf (FloatOps.addf (FloatOps.addf (FloatOps.addf (FloatOps.addf (FloatOps.addf
    (FloatOps.divf s0 tot) (FloatOps.divf (s 1) tot)) (FloatOps.divf (s 2) tot)) (FloatOps.divf (s 3) tot))
    (FloatOps.divf (s 4) tot)) (FloatOps.divf (s 5) tot)) (FloatOps.divf (s 6) tot)) (FloatOps.divf (s 7) tot)) c

/-- What a proof about a tile says of the numbers it meets: which entries are `good`, which numbers are a
    row's contribution (`part`), and which the running sum after `n` trips (`acc n`). -/
structure Vals (F : FTy → Type) [FloatOps F] where
  good : F .f32 → Prop
  part : F .f32 → Prop
  acc : ℕ → F .f32 → Prop
  good_max : ∀ {a b}, good a → good b → good (FloatOps.maximumf a b)
  good_min : ∀ {a b}, good a → good b → good (FloatOps.minimumf a b)
  part_share : ∀ m : Fin 8 → F .f32, (∀ j, good (m j)) →
    part (share (FloatOps.ofBits .f32 0x3E000000#32)
      (FloatOps.addf (FloatOps.ofBits .f32 0x3F800000#32) (FloatOps.ofBits .f32 0x00000000#32)) m)
  acc_zero : acc 0 (FloatOps.ofBits .f32 0x00000000#32)
  acc_succ : ∀ {n a x y}, acc n a → part x → part y → acc (n + 1) (FloatOps.addf a (FloatOps.addf x y))

variable (G : Vals F)

/-- Every element is good. -/
structure Gd {s : Shape} (v : s.Idx → F .f32) : Prop where
  all : ∀ x, G.good (v x)
/-- Every lane is a row's contribution. -/
structure Pt {s : Shape} (v : s.Idx → F .f32) : Prop where
  all : ∀ x, G.part (v x)
/-- Every lane is the running sum after `n` trips. -/
structure Ac (n : ℕ) {s : Shape} (v : s.Idx → F .f32) : Prop where
  all : ∀ x, G.acc n (v x)

section Closure
variable {G} {s t : Shape}

theorem Gd.max {a b : FVec F s .f32} (ha : Gd G a) (hb : Gd G b) : Gd G (maximumf a b) := ⟨fun x => G.good_max (ha.all x) (hb.all x)⟩
theorem Gd.min {a b : FVec F s .f32} (ha : Gd G a) (hb : Gd G b) : Gd G (minimumf a b) := ⟨fun x => G.good_min (ha.all x) (hb.all x)⟩
theorem Gd.cast {a : FVec F s .f32} (ha : Gd G a) (h : s.ShapeCasts t) : Gd G (shapeCast t a h) := ⟨fun _ => ha.all _⟩

/-- The exponential of the largest entry's own difference, as the kernel spells it: 1 + 0. -/
abbrev oneV : FVec F s .f32 := addf (broadcast s (Scalar.ofBits .f32 0x3F800000#32)) (broadcast s (Scalar.ofBits .f32 0x00000000#32))

/-- The sum of the eight exponentials. -/
abbrev totV (m0 m1 m2 m3 m4 m5 m6 m7 : FVec F s .f32) : FVec F s .f32 :=
  addf (addf (addf (addf (addf (addf (addf oneV (exp (subf m1 m0))) (exp (subf m2 m0))) (exp (subf m3 m0))) (exp (subf m4 m0)))
    (exp (subf m5 m0))) (exp (subf m6 m0))) (exp (subf m7 m0))

/-- The printed form of a group's contribution, over its eight largest vectors. -/
theorem Pt.of_share {m0 m1 m2 m3 m4 m5 m6 m7 : FVec F s .f32} (h0 : Gd G m0) (h1 : Gd G m1) (h2 : Gd G m2) (h3 : Gd G m3)
    (h4 : Gd G m4) (h5 : Gd G m5) (h6 : Gd G m6) (h7 : Gd G m7) :
    Pt G (mulf (addf (addf (addf (addf (addf (addf (addf (divf oneV (totV m0 m1 m2 m3 m4 m5 m6 m7))
      (divf (exp (subf m1 m0)) (totV m0 m1 m2 m3 m4 m5 m6 m7))) (divf (exp (subf m2 m0)) (totV m0 m1 m2 m3 m4 m5 m6 m7)))
      (divf (exp (subf m3 m0)) (totV m0 m1 m2 m3 m4 m5 m6 m7))) (divf (exp (subf m4 m0)) (totV m0 m1 m2 m3 m4 m5 m6 m7)))
      (divf (exp (subf m5 m0)) (totV m0 m1 m2 m3 m4 m5 m6 m7))) (divf (exp (subf m6 m0)) (totV m0 m1 m2 m3 m4 m5 m6 m7)))
      (divf (exp (subf m7 m0)) (totV m0 m1 m2 m3 m4 m5 m6 m7))) (broadcast s (Scalar.ofBits .f32 0x3E000000#32))) where
  all x := G.part_share ![m0 x, m1 x, m2 x, m3 x, m4 x, m5 x, m6 x, m7 x] fun j => by
    match j with
    | 0 => exact h0.all x
    | 1 => exact h1.all x
    | 2 => exact h2.all x
    | 3 => exact h3.all x
    | 4 => exact h4.all x
    | 5 => exact h5.all x
    | 6 => exact h6.all x
    | 7 => exact h7.all x

theorem Ac.step {n : ℕ} {a x y : FVec F s .f32} (ha : Ac G n a) (hx : Pt G x) (hy : Pt G y) :
    Ac G (n + 1) (addf a (addf x y)) := ⟨fun i => G.acc_succ (ha.all i) (hx.all i) (hy.all i)⟩

end Closure

/-! ## The scratch's words -/

/-- Where the `n`-th scatter of a trip puts its lanes: lane `l` goes to word `17 l + slot n`. -/
def slot (n : ℕ) : ℕ := 1088 * (n / 64) + 272 * (n % 4) + n % 64 / 4

/-- After `n` scatters, the words they wrote are good. -/
def Filled (n : ℕ) (g : S2176.Idx → F .f32) : Prop :=
  ∀ j < n, ∀ l < 16, ∀ x : S2176.Idx, (x 0).val = 17 * l + slot j → G.good (g x)

theorem filled_zero (g : S2176.Idx → F .f32) : Filled G 0 g := fun _ h => absurd h (Nat.not_lt_zero _)

/-- All 128 scatters done, a row of sixteen words at a multiple of 17 is good. -/
theorem Filled.row {g : S2176.Idx → F .f32} (h : Filled G 128 g) {x : S2176.Idx} {e r : ℕ} (he : e < 128) (hr : r < 16)
    (hx : (x 0).val = 17 * e + r) : G.good (g x) := by
  obtain ⟨q, g, l, hq, hg, hl, rfl⟩ : ∃ q g l, q < 2 ∧ g < 4 ∧ l < 16 ∧ e = 64 * q + 16 * g + l :=
    ⟨e / 64, e % 64 / 16, e % 16, by omega, by omega, by omega, by omega⟩
  refine h (64 * q + 4 * r + g) (by omega) l hl x ?_
  have h1 : (64 * q + 4 * r + g) / 64 = q := by omega
  have h2 : (64 * q + 4 * r + g) % 4 = g := by omega
  have h3 : (64 * q + 4 * r + g) % 64 / 4 = r := by omega
  rw [hx, slot, h1, h2, h3]
  omega

/-- Lanes stored one after another: an element good before, or named by some lane, is good after. -/
theorem fold_good {s : Shape} {ι : Type} (i : ι → s.Idx) (w : ι → F .f32) (hw : ∀ k, G.good (w k)) (L : List ι) :
    ∀ (g : s.Idx → F .f32) {y : s.Idx}, (G.good (g y) ∨ ∃ k ∈ L, ∀ a, (y a).val = (i k a).val) →
      G.good (L.foldl (fun g k j => if ∀ a, (j a).val = (i k a).val then w k else g j) g y) := by
  induction L with
  | nil => rintro g y (h | ⟨k, hk, -⟩); exacts [h, absurd hk List.not_mem_nil]
  | cons k L ih =>
    intro g y h
    refine ih _ ?_
    dsimp only
    by_cases hk : ∀ a, (y a).val = (i k a).val
    · left; rw [if_pos hk]; exact hw _
    · rw [if_neg hk]
      rcases h with h | ⟨k', hk', h⟩
      · exact .inl h
      · rcases List.mem_cons.mp hk' with rfl | hk'
        exacts [absurd h hk, .inr ⟨k', hk', h⟩]

/-- The indexed store of a vector of good values at `17 l + slot n`, lane `l`. -/
theorem Filled.store {n : ℕ} {g : S2176.Idx → F .f32} (hg : Filled G n g) {v : IVec S16 32} {w : Vec F S16 .f32}
    (h : ∀ a x, ((![v] : Fin 1 → IVec S16 32) a x).toNat < S2176.size a)
    (hv : ∀ x, (v x).toNat = 17 * (x 0).val + slot n) (hw : Gd G w) :
    Filled G (n + 1) (storeIdx g ![v] w (fun _ => 1#1) false h) := by
  intro j hj l hl x hx
  have e : storeIdx g ![v] w (fun _ => 1#1) false h = (List.finRange 16).foldl
      (fun g k j => if ∀ a, (j a).val = (idxAt ![v] h (Shape.ofLane k) a).val then w (Shape.ofLane k) else g j) g := by
    unfold storeIdx
    simp only [Bool.false_eq_true, ↓reduceIte]
    rfl
  rw [e]
  refine fold_good G _ (fun k => w (Shape.ofLane k)) (fun k => hw.all _) _ g ?_
  rcases Nat.lt_succ_iff_lt_or_eq.mp hj with hj | rfl
  · exact .inl (hg j hj l hl x hx)
  · refine .inr ⟨⟨l, hl⟩, List.mem_finRange _, fun a => ?_⟩
    rw [Fin.eq_zero a, hx]
    exact (hv (Shape.ofLane ⟨l, hl⟩)).symm

/-! ## The program, one effect at a time -/

variable (sc : Fin τ.nSC) (tl : Fin τ.nSub) (d : Dev nD)
variable (bM : Memref sig .scVector .vmem S256x64 .f32) (tM : Memref sig .scVector .vmem S2176 .f32)

abbrev UU : Type := URounds (GSem nD τ sig) ℕ × (URounds (GSem nD τ sig) Unit × Counters)
local notation "𝕄" => MT nD τ sig (HIx 1) (Elt F) ℕ UU ℕ
abbrev PP (F : FTy → Type) [FloatOps F] (sc : Fin τ.nSC) (tl : Fin τ.nSub) : Type → Type 1 :=
  Prog (TpuEff nD τ sig (Elt F) Λ₀ (.scVector sc tl))

/-- The two buffers in a trip: the chunk of rows, every entry good; the scratch after `n` scatters. -/
def Held (n : ℕ) : sProp 𝕄 :=
  iprop(∃ (B : Buf (Elt F) (bM.view.loc (V d sc tl))) (f : Buf (Elt F) (tM.view.loc (V d sc tl))),
    ⌜Gd G (bM.view.read (Elt F) B) ∧ Filled G n (tM.view.read (Elt F) f)⌝
    ∗ (bM.view.loc (V d sc tl) ↦[bM.view.set]{fullShare} B) ∗ (tM.view.loc (V d sc tl) ↦[tM.view.set]{fullShare} f))

variable {sc tl}

/-- From `n` scatters done, the program runs and ends with `m` done at a result `v` such that `Q m v`. -/
@[irreducible] def Ok {α : Type} (n : ℕ) (p : PP F sc tl α) (Q : ℕ → α → Prop) : Prop :=
  (Held G sc tl d bM tM n : sProp 𝕄) ⊢ wp frame (wpE (defs₀ (F := F)) Variants.none (V d sc tl) none) Set.univ p
    fun v => iprop(∃ m, ⌜Q m v⌝ ∗ Held G sc tl d bM tM m)

variable {d bM tM G} {α β : Type} {n : ℕ} {Q : ℕ → β → Prop}

theorem Ok.ret {v : β} (h : Q n v) : Ok (sc := sc) (tl := tl) G d bM tM n (Prog.ret v) Q := by
  unfold Ok
  rw [wp_ret]
  iintro H
  imodintro
  iexists n
  isplitr
  · ipureintro; exact h
  · iexact H

theorem Ok.bind {p : PP F sc tl α} {k : α → PP F sc tl β} {R : ℕ → α → Prop} (hp : Ok G d bM tM n p R)
    (hk : ∀ m v, R m v → Ok G d bM tM m (k v) Q) : Ok G d bM tM n (p >>= k) Q := by
  unfold Ok at *
  rw [wp_bind]
  refine hp.trans (wp_mono frame _ _ fun v => ?_)
  iintro ⟨%m, %h, H⟩
  iapply (hk m v h)
  iexact H

theorem Ok.assume {P : Prop} {dP : Decidable P} {k : PLift P → PP F sc tl β} (hP : P) (hk : Ok G d bM tM n (k ⟨hP⟩) Q) :
    Ok G d bM tM n (Prog.op (.assume P dP) k) Q :=
  by
  unfold Ok at *
  refine BIBase.Entails.trans hk ?_
  exact wp_assume (defs := defs₀) Variants.none (V d sc tl) none Set.univ (k := k) hP

/-- A load out of the chunk: every element read is good. -/
theorem Ok.loadRow {r : Rect S256x64} {hl : bM.view.LoadsAt r.toLoadRect} {k : (r.toLoadRect.shape.Idx → Elt F .f32) → PP F sc tl β}
    (hk : ∀ v, Gd G v → Ok G d bM tM n (k v) Q) : Ok G d bM tM n (Prog.op (.load bM r.toLoadRect hl) k) Q := by
  unfold Ok Held
  iintro ⟨%B, %f, %h, HB, Hf⟩
  iapply (wp_load (defs := defs₀) Variants.none (V d sc tl) none Set.univ (m := bM) (r := r.toLoadRect) (hl := hl)
    (S := bM.view.set) (View.setOn_subset_set _ _)) $$ HB
  iintro HB
  have hk := hk (bM.view.readAt (Elt F) r.toLoadRect B) ⟨fun x => h.1.all _⟩
  unfold Ok at hk
  iapply hk
  unfold Held
  iexists B, f
  isplitr
  · ipureintro; exact h
  isplitl [HB] <;> iassumption

/-- A load out of the scratch of sixteen words at a multiple of 17, all scatters done: good. -/
theorem Ok.loadCol {off : Fin 1 → ℕ} {inb} {hl : tM.view.LoadsAt (Rect.unit (s := S2176) off S16.size inb).toLoadRect}
    {k : ((Rect.unit (s := S2176) off S16.size inb).toLoadRect.shape.Idx → Elt F .f32) → PP F sc tl β}
    (ho : off 0 % 17 = 0 ∧ off 0 / 17 < 128)
    (hk : ∀ v : Vec F S16 .f32, Gd G v → Ok G d bM tM 128 (k v) Q) : Ok G d bM tM 128 (Prog.op (.load tM (Rect.unit (s := S2176) off S16.size inb).toLoadRect hl) k) Q := by
  unfold Ok Held
  iintro ⟨%B, %f, %h, HB, Hf⟩
  iapply (wp_load (defs := defs₀) Variants.none (V d sc tl) none Set.univ (m := tM) (r := (Rect.unit (s := S2176) off S16.size inb).toLoadRect) (hl := hl)
    (S := tM.view.set) (View.setOn_subset_set _ _)) $$ Hf
  iintro Hf
  have hk := hk (tM.view.readAt (Elt F) (Rect.unit (s := S2176) off S16.size inb).toLoadRect f) ⟨fun x =>
    h.2.row G (e := off 0 / 17) (r := (x 0).val) ho.2 (x 0).isLt (by
      show off 0 + 1 * (x 0).val = _
      omega)⟩
  unfold Ok at hk
  iapply hk
  unfold Held
  iexists B, f
  isplitr
  · ipureintro; exact h
  isplitl [HB] <;> iassumption

/-- The indexed store: one more scatter done. -/
theorem Ok.scatter {v : IVec S16 32} {w : Vec F S16 .f32} {h hl hs} {k : PUnit → PP F sc tl β}
    (hv : ∀ x, (v x).toNat = 17 * (x 0).val + slot n) (hw : Gd G w) (hk : Ok G d bM tM (n + 1) (k ⟨⟩) Q) :
    Ok G d bM tM n (Prog.op (.load tM (LoadRect.whole S2176) hl) fun f =>
      .op (.store tM (.whole S2176) (storeIdx f ![v] w (fun _ => 1#1) false h) Finset.univ hs (.inl rfl)) k) Q := by
  unfold Ok Held
  iintro ⟨%B, %f, %hf, HB, Hf⟩
  iapply (wp_load_rect (defs := defs₀) Variants.none (V d sc tl) none Set.univ (m := tM) (r := Rect.whole S2176) (hl := hl)
    (S := tM.view.set) (f := f) (View.set_slice_subset _ _)) $$ Hf
  iintro Hf
  iapply (wp_store (defs := defs₀) Variants.none (V d sc tl) none Set.univ (m := tM) (r := .whole S2176) (Mk := Finset.univ)
    (hx := hs) (hm := .inl rfl) (k := k) (f := f) (S := tM.view.set) (View.set_slice_subset _ _)) $$ Hf
  iintro Hf
  unfold Ok at hk
  iapply hk
  unfold Held
  iexists B, _
  isplitr
  rotate_left
  · isplitl [HB]; · iexact HB
    iexact Hf
  ipureintro
  refine ⟨hf.1, ?_⟩
  have hr : (tM.access (Rect.whole S2176)).read (Elt F) f = tM.view.read (Elt F) f :=
    funext fun x => congrArg (tM.view.read (Elt F) f) (Rect.emb_whole_apply _ x)
  have hw' : ∀ w', tM.view.read (Elt F) ((tM.access (Rect.whole S2176)).write (Elt F) f w' Finset.univ) = w' := fun w' =>
    funext fun x => by
      have h := View.read_slice_write_emb (v := tM.view) (Val := Elt F) (Rect.whole S2176) f w' (Finset.mem_univ x)
      rw [Rect.emb_whole_apply] at h
      exact h
  rw [hw', hr]
  exact hf.2.store G h hv hw

end Cert.Proof.Rows
-- ==== Proof.Trip.lean ====
module
public import proofs.«01_k».proof.Proof.Rows

@[expose] public section

noncomputable section

namespace Cert.Proof.Rows

open Cert.KernelIdeal Cert.KernelIdeal.Gen

open Idealize.ShloMosaic
open Idealize.ShloMosaic.SparseCore (S V T)
open Idealize.SL Idealize.SL.Sem

variable {F : FTy → Type} [FloatOps F] {G : Vals F} {d : Dev nD}

theorem slot_lt {n : ℕ} (h : n < 128) : slot n < 1920 := by unfold slot; omega

theorem lane_addr {v : IVec S16 32} (h : ∀ x, (v x).toNat = 17 * (x 0).val) {c : BitVec 32} {n : ℕ} (hc : c.toNat = slot n ∧ n < 128) (x : S16.Idx) :
    (addi v (broadcast S16 c) x).toNat = 17 * (x 0).val + slot n := by
  have hx : (x 0).val < 16 := (x 0).isLt
  have := slot_lt hc.2
  show (v x + c).toNat = _
  rw [BitVec.toNat_add, h, hc.1, Nat.mod_eq_of_lt (by omega)]

variable {sc : Fin τ.nSC} {tl : Fin τ.nSub} {d : Dev nD} {bM : Memref sig .scVector .vmem S256x64 .f32} {tM : Memref sig .scVector .vmem S2176 .f32}

theorem Ok.check {β : Type} {Q : ℕ → β → Prop} {n : ℕ} {P : Prop} {dP : Decidable P} {k : PLift P → PP F sc tl β} {v : IVec S16 32} (hP : (∀ a x, ((![v] : Fin 1 → IVec S16 32) a x).toNat < S2176.size a) → P)
    (hv : ∀ x, (v x).toNat = 17 * (x 0).val + slot n) (hn : n < 128) (hk : ∀ h, Ok G d bM tM n (k ⟨h⟩) Q) :
    Ok G d bM tM n (Prog.op (.assume P dP) k) Q := by
  refine Ok.assume (hP fun a x => ?_) (hk _)
  have hx : (x 0).val < 16 := (x 0).isLt
  have := slot_lt hn
  rw [Fin.eq_zero a]
  show (v x).toNat < 2176
  rw [hv]; omega

theorem Ok.of_eq {β : Type} {Q : ℕ → β → Prop} {n m : ℕ} (h : n = m) {p : PP F sc tl β} (hp : Ok G d bM tM m p Q) : Ok G d bM tM n p Q := h ▸ hp

/-- A tuple of vectors every element of which is good. -/
class Tuple (F : outParam (FTy → Type)) [FloatOps F] (α : Type) where
  ok : Vals F → α → Prop

instance : Tuple F (S16.Idx → F .f32) := ⟨fun G v => Gd G v⟩
instance {α β : Type} [Tuple F α] [Tuple F β] : Tuple F (Σ' (_ : α), β) := ⟨fun G v => Tuple.ok G v.1 ∧ Tuple.ok G v.2⟩

theorem Tuple.all_cons {α β : Type} [Tuple F α] [Tuple F β] {M : (Σ' (_ : α), β) → Prop}
    (h : ∀ a : α, Tuple.ok G a → ∀ b : β, Tuple.ok G b → M ⟨a, b⟩) : ∀ v, Tuple.ok G v → M v :=
  fun v hv => h v.1 hv.1 v.2 hv.2

theorem Tuple.cons {α β : Type} [Tuple F α] [Tuple F β] {a : α} {b : β} (ha : Tuple.ok G a) (hb : Tuple.ok G b) :
    Tuple.ok G (⟨a, b⟩ : Σ' (_ : α), β) := ⟨ha, hb⟩

theorem Tuple.one {a : S16.Idx → F .f32} (ha : Gd G a) : Tuple.ok G a := ha

/-- What a softmax of eight good vectors has computed once its exponentials are there: the eight of them and
    the sum of the first seven. -/
inductive Soft (G : Vals F) : (Σ' (_ : FVec F S16 .f32) (_ : FVec F S16 .f32) (_ : FVec F S16 .f32) (_ : FVec F S16 .f32) (_ : FVec F S16 .f32)
    (_ : FVec F S16 .f32) (_ : FVec F S16 .f32) (_ : FVec F S16 .f32), FVec F S16 .f32) → Prop
  | mk {m0 m1 m2 m3 m4 m5 m6 m7 : FVec F S16 .f32} (h0 : Gd G m0) (h1 : Gd G m1) (h2 : Gd G m2) (h3 : Gd G m3)
      (h4 : Gd G m4) (h5 : Gd G m5) (h6 : Gd G m6) (h7 : Gd G m7) :
    Soft G ⟨oneV, exp (subf m1 m0), exp (subf m2 m0), exp (subf m3 m0), exp (subf m4 m0), exp (subf m5 m0), exp (subf m6 m0), exp (subf m7 m0),
      addf (addf (addf (addf (addf (addf oneV (exp (subf m1 m0))) (exp (subf m2 m0))) (exp (subf m3 m0))) (exp (subf m4 m0))) (exp (subf m5 m0))) (exp (subf m6 m0))⟩

section
variable (i : grid0.Coords) (arg2 : Memref sig .scVector .hbm S4x8192x64 .f32) (harg2 : arg2.IsWhole) (arg3 : Memref sig .scVector .hbm S32x16 .f32) (harg3 : arg3.IsWhole) (arg4 : Memref sig .scVector .vmem S256x64 .f32) (harg4 : arg4.IsWhole) (arg5 : Memref sig .scVector .vmem S256x64 .f32) (harg5 : arg5.IsWhole) (arg6 : Memref sig .scVector .vmem S2176 .f32) (harg6 : arg6.IsWhole) (arg7 : Memref sig .scVector .vmem S16 .f32) (harg7 : arg7.IsWhole) (arg8 : DmaSems sig S_) (arg9 : DmaSems sig S_) (v58_r0 : DmaSems sig S_)

set_option maxHeartbeats 4000000 in
theorem trip1 (v33 : IVec S16 32) (h33 : ∀ x, (v33 x).toNat = 17 * (x 0).val) (k : Fin k0_t1_loop.trips) (n : ℕ) (acc : FVec F S16 .f32) (hacc : Ac G n acc) :
    Ok G d arg4 arg6 0 (k0_t1_body i arg2 harg2 arg3 harg3 arg4 harg4 arg5 harg5 arg6 harg6 arg7 harg7 arg8 arg9 v58_r0 v33 k acc)
      fun _ v => Ac G (n + 1) v := by
  unfold k0_t1_body
  iterate 128
    refine Ok.loadRow fun w hw => ?_
    refine Ok.check id (lane_addr h33 (by decide)) (by decide) fun hr => ?_
    refine Ok.scatter (lane_addr h33 (by decide)) (Gd.cast hw _) ?_
  refine Ok.of_eq (m := 128) (by decide) ?_
  clear * - hacc
  iterate 11
    refine Ok.bind (R := fun m v => m = 128 ∧ Tuple.ok G v) ?_ ?_
    · repeat refine Ok.loadCol (by decide) fun w hw => ?_
      refine Ok.ret ⟨rfl, ?_⟩
      repeat' refine Tuple.cons ?_ ?_
      all_goals refine Tuple.one ?_
      all_goals repeat' first | assumption | refine Gd.max ?_ ?_ | refine Gd.min ?_ ?_
    rintro _ v ⟨rfl, hv⟩
    revert v
    repeat refine Tuple.all_cons fun _ (_ : Gd G _) => ?_
    refine fun _ (_ : Gd G _) => ?_
  refine Ok.bind (R := fun m v => m = 128 ∧ Soft G v) ?_ ?_
  · refine Ok.ret ⟨rfl, ?_⟩
    refine Soft.mk ?_ ?_ ?_ ?_ ?_ ?_ ?_ ?_
    all_goals repeat' first | assumption | refine Gd.max ?_ ?_ | refine Gd.min ?_ ?_
  rintro _ v ⟨rfl, hv⟩
  cases hv
  refine Ok.bind (R := fun m v => m = 128 ∧ Pt G v.1 ∧ Tuple.ok G v.2) ?_ ?_
  · repeat refine Ok.loadCol (by decide) fun w hw => ?_
    refine Ok.ret ⟨rfl, ?_, ?_⟩
    · refine Pt.of_share ?_ ?_ ?_ ?_ ?_ ?_ ?_ ?_ <;> assumption
    repeat' refine Tuple.cons ?_ ?_
    all_goals refine Tuple.one ?_
    all_goals repeat' first | assumption | refine Gd.max ?_ ?_ | refine Gd.min ?_ ?_
  rintro _ ⟨v1, v⟩ ⟨rfl, hp, hv⟩
  dsimp only at hp hv
  revert v
  repeat refine Tuple.all_cons fun _ (_ : Gd G _) => ?_
  refine fun _ (_ : Gd G _) => ?_
  iterate 10
    refine Ok.bind (R := fun m v => m = 128 ∧ Tuple.ok G v) ?_ ?_
    · repeat refine Ok.loadCol (by decide) fun w hw => ?_
      refine Ok.ret ⟨rfl, ?_⟩
      repeat' refine Tuple.cons ?_ ?_
      all_goals refine Tuple.one ?_
      all_goals repeat' first | assumption | refine Gd.max ?_ ?_ | refine Gd.min ?_ ?_
    rintro _ v ⟨rfl, hv⟩
    revert v
    repeat refine Tuple.all_cons fun _ (_ : Gd G _) => ?_
    refine fun _ (_ : Gd G _) => ?_
  refine Ok.ret ?_
  refine Ac.step hacc hp (Pt.of_share ?_ ?_ ?_ ?_ ?_ ?_ ?_ ?_)
  all_goals repeat' first | assumption | refine Gd.max ?_ ?_ | refine Gd.min ?_ ?_
end

end Cert.Proof.Rows
-- ==== Proof.Trip2.lean ====
/-
  The second counted loop's trip: the first's (Trip.lean) with the two chunks exchanged.
-/
module
public import proofs.«01_k».proof.Proof.Trip

@[expose] public section

noncomputable section

namespace Cert.Proof.Rows

open Cert.KernelIdeal Cert.KernelIdeal.Gen

open Idealize.ShloMosaic
open Idealize.ShloMosaic.SparseCore (S V T)
open Idealize.SL Idealize.SL.Sem

variable {F : FTy → Type} [FloatOps F] {G : Vals F} {d : Dev nD}

section
variable (i : grid0.Coords) (arg2 : Memref sig .scVector .hbm S4x8192x64 .f32) (harg2 : arg2.IsWhole) (arg3 : Memref sig .scVector .hbm S32x16 .f32) (harg3 : arg3.IsWhole) (arg4 : Memref sig .scVector .vmem S256x64 .f32) (harg4 : arg4.IsWhole) (arg5 : Memref sig .scVector .vmem S256x64 .f32) (harg5 : arg5.IsWhole) (arg6 : Memref sig .scVector .vmem S2176 .f32) (harg6 : arg6.IsWhole) (arg7 : Memref sig .scVector .vmem S16 .f32) (harg7 : arg7.IsWhole) (arg8 : DmaSems sig S_) (arg9 : DmaSems sig S_) (v58_r0 : DmaSems sig S_)

set_option maxHeartbeats 4000000 in
/-- The second loop's trip is the first's with the two chunks exchanged. -/
theorem trip2_eq (v33 : IVec S16 32) (k : Fin k0_t2_loop.trips) (acc : FVec F S16 .f32) :
    k0_t2_body i arg2 harg2 arg3 harg3 arg4 harg4 arg5 harg5 arg6 harg6 arg7 harg7 arg8 arg9 v58_r0 v33 k acc =
    k0_t1_body i arg2 harg2 arg3 harg3 arg5 harg5 arg4 harg4 arg6 harg6 arg7 harg7 arg8 arg9 v58_r0 v33 k acc := by
  unfold k0_t1_body k0_t2_body
  rfl

theorem trip2 {d : Dev nD} (v33 : IVec S16 32) (h33 : ∀ x, (v33 x).toNat = 17 * (x 0).val) (k : Fin k0_t2_loop.trips) (n : ℕ) (acc : FVec F S16 .f32)
    (hacc : Ac G n acc) :
    Ok G d arg5 arg6 0 (k0_t2_body i arg2 harg2 arg3 harg3 arg4 harg4 arg5 harg5 arg6 harg6 arg7 harg7 arg8 arg9 v58_r0 v33 k acc)
      fun _ v => Ac G (n + 1) v := by
  rw [trip2_eq]
  exact trip1 i arg2 harg2 arg3 harg3 arg5 harg5 arg4 harg4 arg6 harg6 arg7 harg7 arg8 arg9 v58_r0 v33 h33 k n acc hacc
end

end Cert.Proof.Rows

end
-- ==== Proof.Tile.lean ====
/-
  The SparseCore call's task on one tile: two chunks of 256 rows are fetched on two semaphores, the rows of
  each go through the counted loop (`trip1`, `trip2`), and the sixteen running sums go out to the tile's own
  row of the call's result. What the task reads of the input is good (`Vals.good`); what it leaves in its row is
  the running sum after the sixteen trips (`Vals.acc 16`).
-/
module

public import Idealize.ShloMosaic.Lib.SparseCore.Quiescent
public import Idealize.ShloMosaic.Lib.StableHlo.Run
public import Idealize.ShloMosaic.Lib.Pipeline.Kit
public import proofs.«01_k».proof.Proof.Trip2

@[expose] public section

noncomputable section

namespace Cert.Proof.Tile

open Cert.KernelIdeal Cert.KernelIdeal.Gen Cert.Proof.Rows

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (G : Vals F)

local notation "𝕄" => MT nD τ sig (HIx 1) (Elt F) ℕ UU ℕ

-- the memrefs the task is handed: the input, the call's result, the two chunks, the scratch, the sums
local notation "xV" => (Memref.whole Cert.KernelIdeal.main_arg0_scv : Memref Cert.KernelIdeal.sig Kind.scVector Space.hbm Cert.KernelIdeal.S4x8192x64 EltTy.f32)
local notation "oV" => (Memref.whole Cert.KernelIdeal.main_v0_scv : Memref Cert.KernelIdeal.sig Kind.scVector Space.hbm Cert.KernelIdeal.S32x16 EltTy.f32)
local notation "aV" => (Memref.whole Cert.KernelIdeal.cc0_scratch0 : Memref Cert.KernelIdeal.sig Kind.scVector Space.vmem Cert.KernelIdeal.S256x64 EltTy.f32)
local notation "bV" => (Memref.whole Cert.KernelIdeal.cc0_scratch1 : Memref Cert.KernelIdeal.sig Kind.scVector Space.vmem Cert.KernelIdeal.S256x64 EltTy.f32)
local notation "tV" => (Memref.whole Cert.KernelIdeal.cc0_scratch2 : Memref Cert.KernelIdeal.sig Kind.scVector Space.vmem Cert.KernelIdeal.S2176 EltTy.f32)
local notation "sV" => (Memref.whole Cert.KernelIdeal.cc0_scratch3 : Memref Cert.KernelIdeal.sig Kind.scVector Space.vmem Cert.KernelIdeal.S16 EltTy.f32)

variable (m : (ℓ : Loc nD τ sig) → Buf (Elt F) ℓ) (d : Dev nD) (L : grid0.Coords)

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

abbrev rowK (L : grid0.Coords) : Rect S32x16 := Rect.unit (s := S32x16) (k0_off258 L) S1x16.size (k0_off258_inb L)
abbrev oRowK (L : grid0.Coords) : Memref sig .scVector .hbm S16 .f32 := ((oV).slice (rowK L) (fun _ => rfl)).squeeze S16 squeezes_S1x16_S16

/-- The three semaphores of the task, at zero. -/
abbrev cells0 (d : Dev nD) (L : grid0.Coords) : sProp 𝕄 :=
  iprop(semVal ((VT d L, .dma cc0_scratch4.sem) : GSem nD τ sig) 0 ∗ semVal ((VT d L, .dma cc0_scratch5.sem) : GSem nD τ sig) 0
    ∗ semVal ((VT d L, .dma cc0_scoped0.sem) : GSem nD τ sig) 0)

/-- A loop of the task: the chunk it reads, the scratch, the sums so far (`n` trips done before this loop). -/
def inv (bM : Memref sig .scVector .vmem S256x64 .f32) (n : ℕ) (k : ℕ) (acc : FVec F S16 .f32) : sProp 𝕄 :=
  iprop(⌜Ac G (n + k) acc⌝ ∗ Held G (cV L) (jV L) d bM tV 0)

theorem held_of (bM : Memref sig .scVector .vmem S256x64 .f32) (tM : Memref sig .scVector .vmem S2176 .f32)
    {B : Buf (Elt F) (bM.view.loc (VT d L))} {f : Buf (Elt F) (tM.view.loc (VT d L))} (h : Gd G (bM.view.read (Elt F) B)) :
    (iprop((bM.view.loc (VT d L) ↦[bM.view.set]{fullShare} B) ∗ (tM.view.loc (VT d L) ↦[tM.view.set]{fullShare} f)) : sProp 𝕄)
      ⊢ Held G (cV L) (jV L) d bM tM 0 := by
  unfold Held
  iintro ⟨HB, Hf⟩
  iexists B, f
  isplitr
  · ipureintro; exact ⟨h, filled_zero G _⟩
  isplitl [HB] <;> iassumption

/-- The scratch's contents may be forgotten. -/
theorem held_zero (bM : Memref sig .scVector .vmem S256x64 .f32) (tM : Memref sig .scVector .vmem S2176 .f32) (n : ℕ) :
    (Held G (cV L) (jV L) d bM tM n : sProp 𝕄) ⊢ Held G (cV L) (jV L) d bM tM 0 := by
  unfold Held
  iintro ⟨%B, %f, %h, HB, Hf⟩
  iexists B, f
  isplitr
  · ipureintro; exact ⟨h.1, filled_zero G _⟩
  isplitl [HB] <;> iassumption

theorem loop_step {bM : Memref sig .scVector .vmem S256x64 .f32} {n k : ℕ} {acc : FVec F S16 .f32}
    {p : PP F (cV L) (jV L) (FVec F S16 .f32)} (h : Ac G (n + k) acc → Ok G d bM tV 0 p fun _ v => Ac G (n + k + 1) v) :
    (inv G d L bM n k acc : sProp 𝕄) ⊢ wp frame (wpE (defs₀ (F := F)) Variants.none (VT d L) none) Set.univ p (inv G d L bM n (k + 1)) := by
  have hk : ∀ v, (iprop(∃ m, ⌜Ac G (n + k + 1) v⌝ ∗ Held G (cV L) (jV L) d bM tV m) : sProp 𝕄) ⊢ inv G d L bM n (k + 1) v := fun v => by
    unfold inv
    iintro ⟨%m, %hv, H⟩
    isplitr
    · ipureintro; exact hv
    iapply (held_zero G d L bM tV m)
    iexact H
  conv_lhs => unfold inv
  iintro ⟨%ha, H⟩
  have h := h ha
  unfold Ok at h
  iapply (h.trans (wp_mono frame _ _ hk))
  iexact H

theorem read_whole {κ : Kind} {sp : Space} {s : Shape} {e : EltTy} (v : View sig κ sp s e) (f : v.ty.Contents (Elt F)) (w : s.Idx → Elt F e) :
    v.read (Elt F) (v.writes (Elt F) f [⟨Rect.whole s, w⟩]) = w :=
  funext fun x => by
    have h := View.read_writes_cons_emb (v := v) (Val := Elt F) (f := f) (Rect.whole s) w [] x
    rwa [Rect.emb_whole_apply] at h

theorem read_sums {κ : Kind} {sp : Space} {e : EltTy} (v : View sig κ sp S16 e) (f : v.ty.Contents (Elt F)) (w : S16.Idx → Elt F e) :
    v.read (Elt F) (v.writes (Elt F) f [⟨Rect.unit (s := S16) ![0] S16.size inb_S16_S16_0, w⟩]) = w :=
  funext fun x => by
    have h := View.read_writes_cons_emb (v := v) (Val := Elt F) (f := f) (Rect.unit (s := S16) ![0] S16.size inb_S16_S16_0) w [] x
    have e : (Rect.unit (s := S16) ![0] S16.size inb_S16_S16_0).emb x = x := funext fun a => Fin.ext (by
      rw [Fin.eq_zero a]
      show 0 + 1 * (x 0).val = _
      omega)
    rwa [e] at h

theorem lanes17 (x : S16.Idx) : (muli (iota .scVector S16 32 [0] iota_S16_d0_w32_scVector) (broadcast S16 17#32) x).toNat = 17 * (x 0).val := by
  obtain ⟨l, rfl⟩ : ∃ l : Fin 16, x = Shape.ofLane l := ⟨x 0, funext fun a => by rw [Fin.eq_zero a]; rfl⟩
  revert l
  decide

set_option maxHeartbeats 4000000 in
theorem tile_run (q0 q1 : PosShare TreeShare) (hm : Gd G (m ((SparseCore.T d).loc main_arg0))) (O : CellTallies nD τ sig (HIx 1)) (W : Waits sig (HIx 1))
    (fo : Buf (Elt F) ((oRowK L).view.loc (VT d L)))
    (a0 : Buf (Elt F) ((aV).view.loc (VT d L))) (b0 : Buf (Elt F) ((bV).view.loc (VT d L)))
    (t0 : Buf (Elt F) ((tV).view.loc (VT d L))) (s0 : Buf (Elt F) ((sV).view.loc (VT d L))) :
    (iprop(Transfers.MayWaits (VT d L) (default : HIx 1) O
        ∗ ((xV).view.loc (VT d L) ↦{q0} m ((SparseCore.T d).loc main_arg0))
        ∗ ((xV).view.loc (VT d L) ↦{q1} m ((SparseCore.T d).loc main_arg0))
        ∗ ((oRowK L).view.loc (VT d L) ↦[(oRowK L).view.set]{fullShare} fo)
        ∗ ((aV).view.loc (VT d L) ↦[(aV).view.set]{fullShare} a0)
        ∗ ((bV).view.loc (VT d L) ↦[(bV).view.set]{fullShare} b0)
        ∗ ((tV).view.loc (VT d L) ↦[(tV).view.set]{fullShare} t0)
        ∗ ((sV).view.loc (VT d L) ↦[(sV).view.set]{fullShare} s0)
        ∗ cells0 d L ∗ owes (VT d L) O W) : sProp 𝕄)
      ⊢ wp frame (wpE (defs₀ (F := F)) Variants.none (VT d L) none) Set.univ
          (cc0_body L xV (Memref.isWhole_whole _) oV (Memref.isWhole_whole _) aV (Memref.isWhole_whole _) bV (Memref.isWhole_whole _)
            tV (Memref.isWhole_whole _) sV (Memref.isWhole_whole _) cc0_scratch4 cc0_scratch5 cc0_scoped0)
          fun _ => iprop(((xV).view.loc (VT d L) ↦{q0} m ((SparseCore.T d).loc main_arg0))
            ∗ ((xV).view.loc (VT d L) ↦{q1} m ((SparseCore.T d).loc main_arg0))
            ∗ (∃ f, ⌜Ac G 16 ((oRowK L).view.read (Elt F) f)⌝ ∗ ((oRowK L).view.loc (VT d L) ↦[(oRowK L).view.set]{fullShare} f))
            ∗ (∃ f, (aV).view.loc (VT d L) ↦[(aV).view.set]{fullShare} f)
            ∗ (∃ f, (bV).view.loc (VT d L) ↦[(bV).view.set]{fullShare} f)
            ∗ (∃ f, (tV).view.loc (VT d L) ↦[(tV).view.set]{fullShare} f)
            ∗ (∃ f, (sV).view.loc (VT d L) ↦[(sV).view.set]{fullShare} f)
            ∗ cells0 d L ∗ ∃ W', owes (VT d L) O W') := by
  rw [cc0_body_eq_skeleton]; unfold cc0_body_skel
  iintro ⟨#Hmw, HX0, HX1, HO, HA, HB, HT, HS, ⟨Hc0, Hc1, Hc2⟩, HW⟩
  unfold k0_part95
  sl_exec
  have hHA : ∀ f, Gd G ((aV).view.read (Elt F) ((aV).view.writes (Elt F) f [⟨Rect.whole S256x64, tile_run.sl.dma0 m d L⟩])) := fun f =>
    (congrArg (Gd G) (read_whole (aV).view f (tile_run.sl.dma0 m d L))).mpr ⟨fun _ => hm.all _⟩
  sl_for (inv G d L aV 0) $$ [HA HT]
  case region =>
    intro k acc
    have hl := loop_step (bM := aV) (n := 0) (k := k.val) (acc := acc) (p := tile_run.sl.prog.body_1 L k acc) G d L
      fun h => trip1 L _ _ _ _ _ _ _ _ _ _ _ _ _ _ _ _ lanes17 k _ acc h
    generalize tile_run.sl.prog.body_1 L k acc = p at hl ⊢
    exact hl
  · unfold inv
    isplitr
    · ipureintro; exact ⟨fun _ => G.acc_zero⟩
    iapply (held_of G d L aV tV (hHA _))
    isplitl [HA]
    · iexact HA
    · iexact HT
  iintro %v50 HI
  unfold inv Held
  icases HI with ⟨%hv50, %B, %f, -, HA, HT⟩
  sl_exec
  have hHB : ∀ f, Gd G ((bV).view.read (Elt F) ((bV).view.writes (Elt F) f [⟨Rect.whole S256x64, tile_run.sl.dma0_1 m d L⟩])) := fun f =>
    (congrArg (Gd G) (read_whole (bV).view f (tile_run.sl.dma0_1 m d L))).mpr ⟨fun _ => hm.all _⟩
  sl_for (inv G d L bV 8) $$ [HB HT]
  case region =>
    intro k acc
    have hl := loop_step (bM := bV) (n := 8) (k := k.val) (acc := acc) (p := tile_run.sl.prog.body_2 L k acc) G d L
      fun h => trip2 L _ _ _ _ _ _ _ _ _ _ _ _ _ _ _ _ lanes17 k _ acc h
    generalize tile_run.sl.prog.body_2 L k acc = p at hl ⊢
    exact hl
  · unfold inv
    isplitr
    · ipureintro; exact hv50
    iapply (held_of G d L bV tV (hHB _))
    isplitl [HB]
    · iexact HB
    · iexact HT
  iintro %v56 HI
  unfold inv Held
  icases HI with ⟨%hv56, %B', %f', -, HB, HT⟩
  sl_exec
  sl_step
  isplitl [HX0]; · iexact HX0
  isplitl [HX1]; · iexact HX1
  isplitl [HO]
  · iexists _
    isplitr
    rotate_left
    · iexact HO
    ipureintro
    rw [read_whole]
    show Ac G 16 ((sV).view.read (Elt F) ((sV).view.writes (Elt F) s0 [⟨Rect.unit (s := S16) ![0] S16.size inb_S16_S16_0, v56⟩]))
    rw [read_sums]
    exact hv56
  isplitl [HA]; · iexists _; iexact HA
  isplitl [HB]; · iexists _; iexact HB
  isplitl [HT]; · iexists _; iexact HT
  isplitl [HS]; · iexists _; iexact HS
  isplitl [Hc0 Hc1 Hc2]
  · isplitl [Hc0]; · iexact Hc0
    isplitl [Hc1]
    · iexact Hc1
    · iexact Hc2
  iexists _; iexact HW

end Cert.Proof.Tile

end
-- ==== Proof.TcBody.lean ====
/-
  The TensorCore call's body at one grid point: it reads its block of 512 rows, works out their share of
  the sum (`tcAdd`), and adds it to the one-word window, which it clears first at the first point.
-/
module

public import Idealize.ShloMosaic.Lib.Pipeline.Regions
public import Idealize.ShloMosaic.Lib.VecWindow
public import proofs.«01_k».proof.Proof.Rows
public import proofs.«01_k».proof.Proof.Gen.KernelIdeal.Launch
public import proofs.«01_k».proof.Proof.Gen.KernelIdeal.Points

@[expose] public section

noncomputable section

namespace Cert.Proof.TcBody

open Cert.KernelIdeal Cert.KernelIdeal.Gen Cert.Proof.Rows

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The one-word window after a point, from the block of rows it reads and what the window held. -/
def tcAdd (v0 : Vec F S1x512x64 .f32) (a : Vec F S1x1 .f32) : FVec F S1x1 .f32 :=
  let v1 := k1_pay3 v0
  k1_pay2 (k1_pay19 (k1_pay5 v0) (k1_pay7 v0) (k1_pay9 v0) (k1_pay11 v0) (k1_pay13 v0) (k1_pay15 v0) (k1_pay16 v0) (k1_pay17 v0) (k1_pay18 v0))
    (k1_pay21 v1) (k1_pay33 (k1_pay20 v1) (k1_pay22 v1) k1_pay23) (k1_pay35 (k1_pay20 v1) (k1_pay22 v1) k1_pay23)
    (k1_pay36 (k1_pay20 v1) (k1_pay22 v1) k1_pay23) (k1_pay37 (k1_pay21 v1))
    (k1_pay38 (k1_pay20 v1) (k1_pay21 v1) (k1_pay22 v1) k1_pay23) (k1_pay39 (k1_pay20 v1) (k1_pay21 v1) (k1_pay22 v1) k1_pay23)
    (k1_pay40 (k1_pay20 v1) (k1_pay21 v1) (k1_pay22 v1) k1_pay23) (k1_pay41 (k1_pay20 v1) (k1_pay21 v1) (k1_pay22 v1) k1_pay23) a

/-- What a proof says of the TensorCore call's running sum: `sum n` of the word after `n` points. -/
structure TcVals (G : Vals F) where
  sum : ℕ → F .f32 → Prop
  zero : sum 0 (FloatOps.ofBits .f32 0x00000000#32)
  step : ∀ {n : ℕ} {v0 : Vec F S1x512x64 .f32} {a : Vec F S1x1 .f32}, Gd G v0 → (∀ x, sum n (a x)) → ∀ x, sum (n + 1) (tcAdd v0 a x)

variable {G : Vals F} (H : TcVals G) (c : Dev nD)

/-- The grid's one coordinate at the first point only is zero, as the body tests it. -/
theorem first_eq (k : Fin 32) : (Scalar.cmpi .ne (Scalar.extui (Scalar.cmpi .eq (BitVec.ofNat 32 k.val) 0#32) : BitVec 32) 0#32 = 1#1) ↔ k.val = 0 := by
  revert k; decide

theorem point_run (i : grid1.Coords) (arg1 : Memref sig .tc .vmem S1x512x64 .f32) (harg1 : arg1.IsWhole)
    (arg2 : Memref sig .tc .vmem S1x1 .f32) (harg2 : arg2.IsWhole) (Y0 : Vec F S1x512x64 .f32) (Y1 : Vec F S1x1 .f32)
    (h0 : Gd G Y0) (h1 : (i 0).val ≠ 0 → ∀ x, H.sum (i 0).val (Y1 x)) (W : Waits sig (HIx 1)) :
    iprop(owns (c : Thread nD τ) arg1 fullShare Y0 ∗ owns (c : Thread nD τ) arg2 fullShare Y1 ∗ owes (c : Thread nD τ) 0 W)
      ⊢ (wp frame (wpE (defs₀ (F := F)) Variants.none (c : Thread nD τ) none) Set.univ (cc1_tc_body i arg1 harg1 arg2 harg2) fun _ =>
        iprop(owns (c : Thread nD τ) arg1 fullShare Y0 ∗ (∃ X, ⌜∀ x, H.sum ((i 0).val + 1) (X x)⌝ ∗ owns (c : Thread nD τ) arg2 fullShare X)
          ∗ owes (c : Thread nD τ) 0 W) : sProp 𝕄) := by
  simp only [cc1_tc_body_eq_skeleton, k1_part1_eq_skeleton, k1_part2_eq_skeleton, k1_part3_eq_skeleton]
  unfold cc1_tc_body_skel
  simp only [k1_part1_eq_skeleton, k1_part2_eq_skeleton, k1_part3_eq_skeleton]
  unfold k1_part1_skel k1_part2_skel k1_part3_skel
  unfold owns
  by_cases hz : (i 0).val = 0
  · have hb := (first_eq (i 0)).mpr hz
    simp only [hb, ↓reduceDIte, Prog.bind_pure, pure_bind]
    iintro ⟨⟨%f0, %e0, H0⟩, ⟨%f1, %e1, H1⟩, HO⟩
    sl_exec
    sl_step
    isplitl [H0]
    · iexists f0; isplitr
      · ipureintro; exact e0
      iexact H0
    isplitr [HO]; swap
    · iexact HO
    iexists tcAdd (F := F) (View.readAt (Elt F) arg1.view (Rect.unit ![0, 0, 0] S1x512x64.size inb_S1x512x64_S1x512x64_0_0_0).toLoadRect f0) k1_pay1
    isplitr
    · ipureintro
      refine H.step ?_ ?_
      · rw [View.readAt_full, e0]; exact h0
      · intro x; rw [hz]; exact H.zero
    iexists _; isplitr; swap
    · iexact H1
    ipureintro
    rw [View.read_writes_full]
    have e := View.readCov_full (Val := Elt F) arg2.view (off := ![0, 0]) (off' := ![0, 0]) inb_S1x1_S1x1_0_0 inb_S1x1_S1x1_0_0 (k1_pay1 (F := F)) []
    refine Eq.trans ?_ (congrArg (tcAdd _) e)
    dsimp only [tcAdd]
    rfl
  · have hb : ¬ _ := fun h => hz ((first_eq (i 0)).mp h)
    simp only [hb, ↓reduceDIte]
    iintro ⟨⟨%f0, %e0, H0⟩, ⟨%f1, %e1, H1⟩, HO⟩
    sl_exec
    sl_step
    isplitl [H0]
    · iexists f0; isplitr
      · ipureintro; exact e0
      iexact H0
    isplitr [HO]; swap
    · iexact HO
    iexists tcAdd (F := F) (View.readAt (Elt F) arg1.view (Rect.unit ![0, 0, 0] S1x512x64.size inb_S1x512x64_S1x512x64_0_0_0).toLoadRect f0)
      (View.readAt (Elt F) arg2.view (Rect.unit ![0, 0] S1x1.size inb_S1x1_S1x1_0_0).toLoadRect f1)
    isplitr
    · ipureintro
      refine H.step ?_ ?_
      · rw [View.readAt_full, e0]; exact h0
      · rw [View.readAt_full, e1]; exact h1 hz
    iexists _; isplitr; swap
    · iexact H1
    ipureintro
    rw [View.read_writes_full]
    dsimp only [tcAdd]

end Cert.Proof.TcBody
-- ==== Proof.TcRegion.lean ====
/-
  The TensorCore call as a whole: its windows, what each point finds and leaves in them, and what the call
  leaves in its one-word result. The input window's block is good at every point; the result's word is, after the
  32 points, the sum of 32 blocks' shares (`TcVals.sum 32`).
-/
module

public import proofs.«01_k».proof.Proof.TcBody
public import Idealize.ShloMosaic.Lib.SparseCore.Quiescent
public import Idealize.ShloMosaic.Lib.Pipeline.RegionArrays

@[expose] public section

noncomputable section

namespace Cert.Proof.TcRegion

open Cert.KernelIdeal Cert.KernelIdeal.Gen Cert.Proof.Rows Cert.Proof.TcBody

open Idealize.ShloMosaic Idealize.ShloMosaic.TcCoe
open Idealize.ShloMosaic.SparseCore (S V T)
open Idealize.ShloMosaic.SparseCore.Cfg (HIx)
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

abbrev K : SparseCore.Cfg τ sig (Pipeline.Sig Λ₀ (Fin 1) fun p => (pcfgs (F := F) p).Adm) 1 := sc (F := F)
abbrev adm : (p : Fin 1) → (pcfgs (F := F) p).Adm := fun p => (cfgs p).toPCfg_adm

variable {G : Vals F} (H : TcVals G) (m : (ℓ : Loc nD τ sig) → Buf (Elt F) ℓ)

/-- A window's array where the call finds it: as at the start of the program. -/
def arr0 (c : Dev nD) : (w : Fin 2) → Buf (Elt F) ((win1 w).arr.view.loc (c : Thread nD τ))
  | 0 => m ((c : Thread nD τ).loc main_arg0)
  | 1 => m ((c : Thread nD τ).loc main_v1)
  | ⟨_ + 2, h⟩ => absurd h (Nat.not_lt.2 (Nat.le_add_left _ _))

/-- What a point may leave in a window's buffer: of the result's word, the sum so far; of the input's, anything. -/
def left : (w : Fin 2) → Fin 32 → (Y X : (win1 w).block.Idx → Elt F (win1 w).elt) → Prop
  | 0 => fun _ _ _ => True
  | 1 => fun t _ X => ∀ x : S1x1.Idx, H.sum (t.val + 1) (X x)
  | ⟨_ + 2, h⟩ => absurd h (Nat.not_lt.2 (Nat.le_add_left _ _))

/-- The recorded waits the TensorCore may hold: those of the call before, and the staging cells'. -/
def waits (c : Dev nD) : Set (SemLoc sig × HIx 1) := {p | (K (F := F)).lev ((c : Thread nD τ), p.1) p.2 ≤ 8}

def rdats (p : Fin 1) (c : Dev nD) : RDat τ (Elt F) (HIx 1) ℕ UU ℕ (Pipeline.pin (pcfgs (F := F)) adm p) c where
  A := arr0 m c
  after := fun w t => left H w t
  Φ := fun _ => BI.emp
  q := fun _ => fullShare
  owed := fun _ => 0
  recorded := fun _ => waits (F := F) c

abbrev rd (c : Dev nD) : RDat τ (Elt F) (HIx 1) ℕ UU ℕ cfg1 c := rdats H m 0 c

theorem share_full (c : Dev nD) (w : Fin 2) : (rd H m c).share w = fullShare := by
  unfold RDat.share
  split <;> rfl

theorem fetch1_1 : ∀ t : Fin cfg1.N, (cfg1.win 1).fetch t = false :=
  (by decide +kernel : ∀ t : Fin grid1.N, win1_1.fetch t = false)

/-- The grid's coordinate at a point is the point's number. -/
theorem coord (t : Fin cfg1.N) : (grid1.coords t 0).val = t.val :=
  (by decide +kernel : ∀ t : Fin grid1.N, (grid1.coords t 0).val = t.val) t

/-- The input's block at every point is good. -/
theorem finds0 (c : Dev nD) (hm : Gd G (s := S4x8192x64) (m ((c : Thread nD τ).loc main_arg0))) (t : Fin cfg1.N) (Y : S1x512x64.Idx → F .f32)
    (h : (rd H m c).Finds 0 t Y) : Gd G Y := by
  obtain ⟨d, rfl⟩ := ((rd H m c).finds_of_fetch (w := 0) (fetch1_0 t) Y).mp h
  refine ⟨fun x => ?_⟩
  have hx : (cfg1.win 0).moved (cfg1.grid.coords t) x = true := ((cfg1.win 0).moved_iff _ x).mpr fun a => (x a).isLt
  unfold RDat.fetched Pipeline.Window.fill
  rw [dif_pos hx]
  exact hm.all _

/-- What a later point finds in the result's word is the sum so far. -/
theorem finds1 (c : Dev nD) (t : Fin cfg1.N) (ht : t.val ≠ 0) (Y : S1x1.Idx → F .f32)
    (h : (rd H m c).Finds 1 t Y) : ∀ x, H.sum t.val (Y x) := by
  have hN : t.val < 32 := lt_of_lt_of_eq t.isLt N_1
  rcases ((rd H m c).finds_of_pos (w := 1) (fetch1_1 t) ht Y).mp h with h | ⟨Y', -, h⟩
  · rw [flush1_1] at h
    simp only at h
    omega
  · intro x
    have := h x
    simp only at this
    rwa [Nat.sub_add_cancel (by omega)] at this

/-- The body at every point. -/
theorem body (c : Dev nD) (hm : Gd G (s := S4x8192x64) (m ((c : Thread nD τ).loc main_arg0))) :
    (rd H m c).BodyObligation (defs₀ (F := F)) Variants.none none Set.univ := by
  intro t Y hY
  rw [show (defs₀ (F := F)) .tc cfg1.body (cfg1.bodyArgs t (cfg1.slots t)) = bodyAt1 t from rfl, bigSep_W1]
  unfold RDat.owesAt Pipeline.owesWithin
  simp only [bigSep_W1]
  iintro ⟨-, ⟨%W, %hW, HO⟩, H0, H1⟩
  have h := point_run H c (grid1.coords t) (st1_0 t) (hstage1_0 ((cfg1.slots t 0).cast nbuf1_0)) (st1_1 t) (hstage1_1 ((cfg1.slots t 1).cast nbuf1_1))
    (Y 0) (Y 1) (finds0 H m c hm t _ (hY 0)) (fun hz => by rw [coord] at hz ⊢; exact finds1 H m c t hz _ (hY 1)) W
  iapply wp_wand_r
  isplitl [H0 H1 HO]
  · iapply h
    isplitl [H0]; · iexact H0
    isplitl [H1]; · iexact H1
    iexact HO
  iintro %_ ⟨H0, ⟨%X, %hX, H1⟩, HO⟩
  isplitr; · iempintro
  isplitl [HO]
  · iexists W; isplitr
    · ipureintro; exact hW
    iexact HO
  isplitl [H0]
  · iexists (Y 0); isplitr
    · ipureintro; trivial
    iexact H0
  iexists X; isplitr
  · ipureintro; rw [coord] at hX; exact hX
  iexact H1

/-- The result's word at the end. -/
theorem arrAt1 (c : Dev nD) (f : Buf (Elt F) ((c : Thread nD τ).loc main_v1)) (h : (rd H m c).ArrAt 1 32 f) : ∀ x : S1x1.Idx, H.sum 32 (f x) := by
  have hN : 31 < cfg1.N := lt_of_lt_of_eq (by decide : 31 < 32) N_1.symm
  have h' : (rd H m c).ArrStep 1 ⟨31, hN⟩ ((rd H m c).ArrAt 1 31) f := by
    have h := h
    rw [RDat.ArrAt.eq_2, dif_pos hN, if_pos ((flush1_1 ⟨31, hN⟩).mpr rfl)] at h
    exact h
  obtain ⟨g, X, -, ⟨Y, -, hX⟩, rfl⟩ := h'
  intro x
  have hs : ∀ a b : S1x1.Idx, a = b := fun a b => funext fun k => by fin_cases k <;> exact Subsingleton.elim (α := Fin 1) _ _
  have e := congrFun (((cfg1.win 1).blk ⟨31, hN⟩).view.read_write_univ g ((cfg1.win 1).cut (cfg1.grid.coords ⟨31, hN⟩) X)) x
  rw [hs x (((cfg1.win 1).blk ⟨31, hN⟩).view.emb x)]
  have hX' : ∀ y : S1x1.Idx, H.sum 32 (X y) := hX
  exact (congrArg (H.sum 32) e).mpr (hX' _)

/-- The result's array is the input's too: never written, it is as it was found. -/
theorem arrAt0 (c : Dev nD) (f : Buf (Elt F) ((c : Thread nD τ).loc main_arg0)) (h : (rd H m c).ArrAt 0 32 f) :
    f = m ((c : Thread nD τ).loc main_arg0) := by
  exact (congrFun ((rd H m c).ArrAt_in 0 rfl 32) f).mp h

/-! ## Around the call -/

/-- The TensorCore's own debts and records around the call. -/
def owesB (c : Dev nD) : sProp 𝕄 :=
  iprop(∃ W, ⌜(K (F := F)).WBelow (c : Thread nD τ) W 8⌝ ∗ owes (c : Thread nD τ) 0 W)

def pre (c : Dev nD) : sProp 𝕄 :=
  iprop(((c : Thread nD τ).loc main_arg0 ↦{fullShare} m ((c : Thread nD τ).loc main_arg0))
    ∗ ((c : Thread nD τ).loc main_v1 ↦{fullShare} m ((c : Thread nD τ).loc main_v1)) ∗ owesB (F := F) c)

def post (c : Dev nD) : sProp 𝕄 :=
  iprop(((c : Thread nD τ).loc main_arg0 ↦{fullShare} m ((c : Thread nD τ).loc main_arg0))
    ∗ (∃ f, ⌜∀ x : S1x1.Idx, H.sum 32 (f x)⌝ ∗ ((c : Thread nD τ).loc main_v1 ↦{fullShare} f)) ∗ owesB (F := F) c)

theorem owes_in (c : Dev nD) : (owesB (F := F) c : sProp 𝕄) ⊢ (rd H m c).owesAt none 0 := by
  unfold owesB RDat.owesAt Pipeline.owesWithin
  iintro ⟨%W, %h, HO⟩
  iexists W; isplitr
  · ipureintro; exact fun p hp => Or.inl (h p hp)
  iexact HO

theorem owes_out (c : Dev nD) : (rd H m c).owesAt none (Fin.last cfg1.N) ⊢ (owesB (F := F) c : sProp 𝕄) := by
  unfold owesB RDat.owesAt Pipeline.owesWithin
  iintro ⟨%W, %h, HO⟩
  iexists W; isplitr
  · ipureintro
    intro p hp
    rcases h hp with h | ⟨w, s, rfl⟩
    · exact h
    · exact Nat.zero_le _
  iexact HO

theorem arrays_in (c : Dev nD) : (rd H m c).arrays (rd H m c).A
    = (iprop(((c : Thread nD τ).loc main_arg0 ↦{fullShare} m ((c : Thread nD τ).loc main_arg0))
      ∗ ((c : Thread nD τ).loc main_v1 ↦{fullShare} m ((c : Thread nD τ).loc main_v1))) : sProp 𝕄) := by
  rw [Pipeline.RDat.arrays_eq (pcfgs (F := F)) adm (rdats H m) 0 c arr_whole1 (share_full H m c), bigSep_W1]
  rfl

theorem arrays_out (c : Dev nD) : (rd H m c).arraysAt 32
    ⊢ (iprop(((c : Thread nD τ).loc main_arg0 ↦{fullShare} m ((c : Thread nD τ).loc main_arg0))
      ∗ ∃ f, ⌜∀ x : S1x1.Idx, H.sum 32 (f x)⌝ ∗ ((c : Thread nD τ).loc main_v1 ↦{fullShare} f)) : sProp 𝕄) := by
  rw [Pipeline.RDat.arraysAt_eq (pcfgs (F := F)) adm (rdats H m) 0 c arr_whole1 (share_full H m c), bigSep_W1]
  iintro ⟨⟨%f0, %h0, H0⟩, ⟨%f1, %h1, H1⟩⟩
  isplitl [H0]
  · rw [← arrAt0 H m c f0 h0]; iexact H0
  iexists f1; isplitr
  · ipureintro; exact arrAt1 H m c f1 h1
  iexact H1

def seg (hm : ∀ c, Gd G (s := S4x8192x64) (m ((SparseCore.T c).loc main_arg0))) :
    Pipeline.RDat.RegionSeg (pcfgs (F := F)) adm (rdats H m) none (defs₀ (F := F)) Variants.none (K (F := F)).L (K (F := F)).lev 0 where
  win := winFacts1.to₀
  block_pos := block_pos1
  stage_whole := stage_whole1
  K := PEmpty
  osem := fun k => k.elim
  ho := Pipeline.OwnSemFacts.none _
  hbody c := body H m c (hm c)
  hwaits := Pipeline.RDat.hwaits_of_owed_zero (pcfgs (F := F)) adm (rdats H m) none _ _ 0 fun _ _ => rfl
  pre := pre m
  post := post H m
  X _ := BI.emp
  Y _ := BI.emp
  Z _ := BI.emp
  hentry c := by
    rw [Pipeline.prefHeld_of_none _ rfl]
    show _ ⊢ |={Set.univ}=> iprop((rd H m c).arrays (rd H m c).A ∗ BI.emp ∗ (rd H m c).owesAt none 0 ∗ BI.emp ∗ BI.emp)
    rw [arrays_in]
    unfold pre
    iintro ⟨⟨H0, H1, HO⟩, -, -⟩
    imodintro
    isplitl [H0 H1]
    · isplitl [H0] <;> iassumption
    isplitr; · iempintro
    isplitl [HO]
    · iapply (owes_in H m c); iexact HO
    isplitr <;> iempintro
  hin c := by
    rw [Pipeline.prefHeld_of_none _ rfl]
    show _ ⊢ (BI.emp : sProp 𝕄)
    iintro -
    iempintro
  hout c := by
    rw [Pipeline.ownSems0_none, show Pipeline.scopedRest (Pipeline.pin (pcfgs (F := F)) adm 0).spec c = BI.emp from scopedRest1_eq c]
    iintro -
    isplitr; · iempintro
    isplitr <;> iempintro
  hexit c := by
    show iprop((rd H m c).arraysAt 32 ∗ (rd H m c).owesAt none (Fin.last cfg1.N) ∗ BI.emp ∗ BI.emp) ⊢ |={Set.univ}=> post H m c
    unfold post
    iintro ⟨HA, HO, -, -⟩
    imodintro
    ihave HA := (arrays_out H m c) $$ HA
    icases HA with ⟨H0, H1⟩
    isplitl [H0]; · iexact H0
    isplitl [H1]; · iexact H1
    iapply (owes_out H m c); iexact HO

end Cert.Proof.TcRegion
-- ==== Proof.Deal.lean ====
/-
  What the SparseCore call carries. The input is only read: each of the two cores takes a share of all of it, and
  each of a core's sixteen tiles a share of the core's. The call's result is 32 rows of sixteen words, and tile `i`
  of core `c` owns row `2 * i + c` alone: it takes the row as it was found and brings it back with every word the
  running sum after sixteen trips. Here: the shares and rows, how they split and join, and the task of one tile
  between the two.
-/
module

public import proofs.«01_k».proof.Proof.Tile
public import proofs.«01_k».proof.Proof.TcRegion

@[expose] public section

noncomputable section

namespace Cert.Proof.Deal

open Cert.KernelIdeal Cert.KernelIdeal.Gen Cert.Proof.Rows Cert.Proof.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] (G : Vals F)

local notation "𝕄" => MT nD τ sig (HIx 1) (Elt F) ℕ UU ℕ

local notation "xV" => (Memref.whole Cert.KernelIdeal.main_arg0_scv : Memref Cert.KernelIdeal.sig Kind.scVector Space.hbm Cert.KernelIdeal.S4x8192x64 EltTy.f32)
local notation "oV" => (Memref.whole Cert.KernelIdeal.main_v0_scv : Memref Cert.KernelIdeal.sig Kind.scVector Space.hbm Cert.KernelIdeal.S32x16 EltTy.f32)
local notation "aV" => (Memref.whole Cert.KernelIdeal.cc0_scratch0 : Memref Cert.KernelIdeal.sig Kind.scVector Space.vmem Cert.KernelIdeal.S256x64 EltTy.f32)
local notation "bV" => (Memref.whole Cert.KernelIdeal.cc0_scratch1 : Memref Cert.KernelIdeal.sig Kind.scVector Space.vmem Cert.KernelIdeal.S256x64 EltTy.f32)
local notation "tV" => (Memref.whole Cert.KernelIdeal.cc0_scratch2 : Memref Cert.KernelIdeal.sig Kind.scVector Space.vmem Cert.KernelIdeal.S2176 EltTy.f32)
local notation "sV" => (Memref.whole Cert.KernelIdeal.cc0_scratch3 : Memref Cert.KernelIdeal.sig Kind.scVector Space.vmem Cert.KernelIdeal.S16 EltTy.f32)

export Cert.Proof.TcRegion (K)

theorem nSub_zero : (K (F := F)).nSub 0 = 16 := rfl
theorem nCore_zero : (K (F := F)).nCore 0 = 2 := rfl
abbrev D : Defs nD τ sig (Elt F) (Pipeline.Sig Λ₀ (Fin 1) fun p => (pcfgs (F := F) p).Adm) := Pipeline.defs pcfgs defs₀
abbrev 𝒱 : Variants := Variants.none.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ)

abbrev xLoc (d : Dev nD) : Loc nD τ sig := (SparseCore.T d).loc main_arg0
abbrev oLoc (d : Dev nD) : Loc nD τ sig := (SparseCore.T d).loc main_v0

/-! ## The shares of the input -/

def coreShare (c : Fin 2) : PosShare TreeShare := Transfers.dealOf fullShare Finset.univ c
def tileShare (c : Fin 2) (i : Fin 16) : PosShare TreeShare := Transfers.dealOf (coreShare c) Finset.univ i
/-- A tile reads the input by two transfers at once: a part of its share for each. -/
def readShare (c : Fin 2) (i : Fin 16) (k : Fin 2) : PosShare TreeShare := Transfers.dealOf (tileShare c i) Finset.univ k

abbrev xPts (d : Dev nD) (q : PosShare TreeShare) : sProp 𝕄 := xLoc d ↦{q} m (xLoc d)

theorem x_cores (d : Dev nD) : (xPts m d fullShare : sProp 𝕄) = bigSep Finset.univ fun c : Fin 2 => xPts m d (coreShare c) :=
  Transfers.pointsTo_deal Finset.univ ⟨0, Finset.mem_univ _⟩ fullShare
theorem x_tiles (d : Dev nD) (c : Fin 2) : (xPts m d (coreShare c) : sProp 𝕄) = bigSep Finset.univ fun i : Fin 16 => xPts m d (tileShare c i) :=
  Transfers.pointsTo_deal Finset.univ ⟨0, Finset.mem_univ _⟩ (coreShare c)
theorem x_reads (d : Dev nD) (c : Fin 2) (i : Fin 16) :
    (xPts m d (tileShare c i) : sProp 𝕄) = iprop(xPts m d (readShare c i 0) ∗ xPts m d (readShare c i 1)) :=
  (Transfers.pointsTo_deal Finset.univ ⟨0, Finset.mem_univ _⟩ (tileShare c i)).trans (bigSep_fin_two _)

/-! ## The rows of the result -/

theorem hdiv : 32 ∣ S32x16.size 0 := ⟨1, rfl⟩
abbrev row (w : Fin 32) : Rect S32x16 := Rect.part (s := S32x16) (a₀ := 0) hdiv w
/-- The row of tile `i` of core `c`. -/
def wid (c : Fin 2) (i : Fin 16) : Fin 32 := ⟨2 * i.val + c.val, by omega⟩
abbrev rowSet (c : Fin 2) (i : Fin 16) : Finset S32x16.Idx := ((oV).view.slice (row (wid c i))).set

theorem rowSet_eq (c : Fin 2) (i : Fin 16) : rowSet c i = (row (wid c i)).set := by
  show ((View.whole (main_v0_scv : Ref sig .scVector)).slice (row (wid c i))).set = _
  rw [View.set_slice]; exact Finset.map_refl

theorem rows_disjoint : ∀ p ∈ (Finset.univ : Finset (Fin 2 × Fin 16)), ∀ p' ∈ (Finset.univ : Finset (Fin 2 × Fin 16)), p ≠ p' →
    Disjoint (rowSet p.1 p.2) (rowSet p'.1 p'.2) := fun p _ p' _ h => by
  rw [rowSet_eq, rowSet_eq]
  refine Rect.part_disjoint hdiv fun e => h ?_
  have e : 2 * p.2.val + p.1.val = 2 * p'.2.val + p'.1.val := congrArg Fin.val e
  exact Prod.ext (Fin.ext (by omega)) (Fin.ext (by omega))

theorem rows_cover : (Finset.univ : Finset (Fin 2 × Fin 16)).biUnion (fun p => rowSet p.1 p.2) = Finset.univ := by
  refine Finset.eq_univ_of_forall fun x => Finset.mem_biUnion.mpr ?_
  obtain ⟨w, -, hw⟩ := Finset.mem_biUnion.mp ((Rect.biUnion_part hdiv).symm ▸ Finset.mem_univ x : x ∈ (Finset.univ : Finset (Fin 32)).biUnion fun w => (row w).set)
  refine ⟨(⟨w.val % 2, Nat.mod_lt _ (by decide)⟩, ⟨w.val / 2, by omega⟩), Finset.mem_univ _, ?_⟩
  rw [rowSet_eq, show wid ⟨w.val % 2, Nat.mod_lt _ (by decide)⟩ ⟨w.val / 2, by omega⟩ = w from Fin.ext (Nat.div_add_mod w.val 2)]
  exact hw

abbrev oPts (d : Dev nD) (f : Buf (Elt F) (oLoc d)) : sProp 𝕄 := oLoc d ↦{fullShare} f
abbrev oRow (d : Dev nD) (c : Fin 2) (i : Fin 16) (f : Buf (Elt F) (oLoc d)) : sProp 𝕄 := oLoc d ↦[rowSet c i]{fullShare} f
/-- A row as its tile leaves it: every word the running sum after sixteen trips. -/
abbrev oDone (d : Dev nD) (c : Fin 2) (i : Fin 16) : sProp 𝕄 :=
  iprop(∃ f : Buf (Elt F) (oLoc d), ⌜∀ x ∈ rowSet c i, G.acc 16 (f x)⌝ ∗ oRow d c i f)

theorem o_rows (d : Dev nD) (f : Buf (Elt F) (oLoc d)) :
    (oPts d f : sProp 𝕄) = bigSep Finset.univ fun c : Fin 2 => bigSep Finset.univ fun i : Fin 16 => oRow d c i f := by
  unfold oPts
  rw [← bigSep_univ_prod (fun p : Fin 2 × Fin 16 => (oRow d p.1 p.2 f : sProp 𝕄)),
    ← pointsTo_biUnion Finset.univ (ℓ := oLoc d) (fun p : Fin 2 × Fin 16 => rowSet p.1 p.2) rows_disjoint, rows_cover]

theorem bigSep_fact {I : Type} [DecidableEq I] (φ : I → Prop) (Ψ : I → sProp 𝕄) (s : Finset I) :
    (bigSep s fun i => iprop(⌜φ i⌝ ∗ Ψ i)) ⊢ (iprop(⌜∀ i ∈ s, φ i⌝ ∗ bigSep s Ψ) : sProp 𝕄) := by
  induction s using Finset.induction_on with
  | empty =>
    rw [bigSep_empty, bigSep_empty]
    iintro H
    isplitr
    · ipureintro; intro i hi; exact absurd hi (Finset.notMem_empty i)
    iexact H
  | insert a s ha ih =>
    rw [SparseCore.bigSep_insert' ha, SparseCore.bigSep_insert' ha]
    iintro ⟨⟨%h, Ha⟩, Hs⟩
    ihave Hs := ih $$ Hs
    icases Hs with ⟨%hs, Hs⟩
    isplitr
    · ipureintro; intro i hi
      rcases Finset.mem_insert.mp hi with rfl | hi
      · exact h
      · exact hs i hi
    isplitl [Ha] <;> iassumption

theorem o_join (d : Dev nD) :
    (bigSep Finset.univ fun c : Fin 2 => bigSep Finset.univ fun i : Fin 16 => oDone G d c i)
      ⊢ (iprop(∃ f : Buf (Elt F) (oLoc d), ⌜∀ x : S32x16.Idx, G.acc 16 (f x)⌝ ∗ oPts d f) : sProp 𝕄) := by
  rw [← bigSep_univ_prod (fun p : Fin 2 × Fin 16 => (oDone G d p.1 p.2 : sProp 𝕄))]
  refine (bigSep_exists_pi Finset.univ (fun (p : Fin 2 × Fin 16) (f : Buf (Elt F) (oLoc d)) =>
    iprop(⌜∀ x ∈ rowSet p.1 p.2, G.acc 16 (f x)⌝ ∗ oRow d p.1 p.2 f))).trans ?_
  iintro ⟨%fs, H⟩
  ihave H := (bigSep_fact (fun p : Fin 2 × Fin 16 => ∀ x ∈ rowSet p.1 p.2, G.acc 16 (fs p x)) (fun p => oRow d p.1 p.2 (fs p)) Finset.univ) $$ H
  icases H with ⟨%hs, H⟩
  ihave H := (pointsTo_biUnion_join (ℓ := oLoc d) (q := fullShare) (Val := Elt F) Finset.univ (fun p : Fin 2 × Fin 16 => rowSet p.1 p.2)
    fs (fs (0, 0)) rows_disjoint) $$ H
  icases H with ⟨%g, %hg, Hg⟩
  rw [rows_cover]
  iexists g
  isplitr
  · ipureintro
    intro x
    obtain ⟨p, hp, hx⟩ := Finset.mem_biUnion.mp (rows_cover.symm ▸ Finset.mem_univ x : x ∈ (Finset.univ : Finset (Fin 2 × Fin 16)).biUnion fun p => rowSet p.1 p.2)
    rw [hg p hp x hx]; exact hs p hp x hx
  iexact Hg

/-! ## What the call carries -/

abbrev cI (c : Fin ((K (F := F)).nCore 0)) : Fin 2 := Fin.cast nCore_zero c
abbrev iI (i : Fin ((K (F := F)).nSub 0)) : Fin 16 := Fin.cast nSub_zero i

def P : (K (F := F)).Pay (nD := nD) (Val := Elt F) (Name := ℕ) (U := UU) where
  st := fun q d c => match q with
    | 0 => iprop(xPts m d (coreShare (cI c)) ∗ bigSep Finset.univ fun i : Fin 16 => oRow d (cI c) i (m (oLoc d)))
  dn := fun q d c => match q with
    | 0 => iprop(xPts m d (coreShare (cI c)) ∗ bigSep Finset.univ fun i : Fin 16 => oDone G d (cI c) i)
  go := fun q d c i => match q with
    | 0 => iprop(xPts m d (tileShare (cI c) (iI i)) ∗ oRow d (cI c) (iI i) (m (oLoc d)))
  td := fun q d c i => match q with
    | 0 => iprop(xPts m d (tileShare (cI c) (iI i)) ∗ oDone G d (cI c) (iI i))
  x := fun _ _ => iprop(emp)

instance P_storable : (P G m).IsStorable where
  st q d c := match q with
    | 0 => (inferInstance : BI.Storable (upEmb : UEmb _ 𝕄)
      iprop(xPts m d (coreShare (cI c)) ∗ bigSep Finset.univ fun i : Fin 16 => oRow d (cI c) i (m (oLoc d))))
  dn q d c := match q with
    | 0 => (inferInstance : BI.Storable (upEmb : UEmb _ 𝕄)
      iprop(xPts m d (coreShare (cI c)) ∗ bigSep Finset.univ fun i : Fin 16 => oDone G d (cI c) i))
  go q d c i := match q with
    | 0 => (inferInstance : BI.Storable (upEmb : UEmb _ 𝕄) iprop(xPts m d (tileShare (cI c) (iI i)) ∗ oRow d (cI c) (iI i) (m (oLoc d))))
  td q d c i := match q with
    | 0 => (inferInstance : BI.Storable (upEmb : UEmb _ 𝕄) iprop(xPts m d (tileShare (cI c) (iI i)) ∗ oDone G d (cI c) (iI i)))

theorem bigSep_tiles (Φ : Fin 16 → sProp 𝕄) :
    (bigSep Finset.univ fun i : Fin ((K (F := F)).nSub 0) => Φ (iI i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (cI c)) = bigSep Finset.univ Φ :=
  bigSep_congr fun _ _ => congrArg Φ (Fin.ext rfl)

/-- A core's part is its tiles' parts. -/
theorem vecSplit : (K (F := F)).VecSplit' (P G m) 0 := by
  intro d c
  show iprop(xPts m d (coreShare (cI c)) ∗ bigSep Finset.univ fun i : Fin 16 => oRow d (cI c) i (m (oLoc d))) ⊢ |={Set.univ}=> iprop(
      (bigSep Finset.univ fun i : Fin ((K (F := F)).nSub 0) => iprop(xPts m d (tileShare (cI c) (iI i)) ∗ oRow d (cI c) (iI i) (m (oLoc d))))
      ∗ ((bigSep Finset.univ fun i : Fin ((K (F := F)).nSub 0) => iprop(xPts m d (tileShare (cI c) (iI i)) ∗ oDone G d (cI c) (iI i)))
          -∗ iprop(xPts m d (coreShare (cI c)) ∗ bigSep Finset.univ fun i : Fin 16 => oDone G d (cI c) i)))
  rw [bigSep_tiles (F := F) (fun i => iprop(xPts m d (tileShare (cI c) i) ∗ oRow d (cI c) i (m (oLoc d)))),
    bigSep_tiles (F := F) (fun i => iprop(xPts m d (tileShare (cI c) i) ∗ oDone G d (cI c) i)), bigSep_sep', bigSep_sep', x_tiles]
  iintro H; imodintro
  isplitl [H]; · iexact H
  iintro H; iexact H

/-- What the cores take together, and bring back. -/
theorem st_eq (d : Dev nD) :
    (bigSep Finset.univ fun c : Fin ((K (F := F)).nCore 0) => (P G m).st 0 d c) = iprop(xPts m d fullShare ∗ oPts d (m (oLoc d))) := by
  refine (bigSep_cores (F := F) (fun c => iprop(xPts m d (coreShare c) ∗ bigSep Finset.univ fun i : Fin 16 => oRow d c i (m (oLoc d))))).trans ?_
  rw [bigSep_sep', x_cores, o_rows]
theorem dn_join (d : Dev nD) :
    (bigSep Finset.univ fun c : Fin ((K (F := F)).nCore 0) => (P G m).dn 0 d c)
      ⊢ iprop(xPts m d fullShare ∗ ∃ f : Buf (Elt F) (oLoc d), ⌜∀ x : S32x16.Idx, G.acc 16 (f x)⌝ ∗ oPts d f) := by
  refine (Entails.of_eq (bigSep_cores (F := F) (fun c => iprop(xPts m d (coreShare c) ∗ bigSep Finset.univ fun i : Fin 16 => oDone G d c i)))).trans ?_
  rw [bigSep_sep', ← x_cores]
  exact sep_mono_right (o_join G d)

/-! ## The task of one tile, from its part to its part -/

section Task

variable (d : Dev nD) (L : grid0.Coords)

theorem bound_zero : grid0.bound 0 = 2 := rfl
theorem bound_one : grid0.bound 1 = 16 := rfl
abbrev cL (L : grid0.Coords) : Fin 2 := Fin.cast bound_zero (L 0)
abbrev iL (L : grid0.Coords) : Fin 16 := Fin.cast bound_one (L 1)

theorem rowK_eq : rowK L = row (wid (cL L) (iL L)) := by
  unfold rowK row Rect.part Rect.block
  congr 1 <;> funext a
  · rw [k0_off258_eq]
    match a with
    | 0 => simp [Shape.partIx, Shape.partSize, wid]
    | 1 => simp [Shape.partIx, Shape.partSize]
  · match a with
    | 0 => simp [Shape.partSize]
    | 1 => simp [Shape.partSize]

theorem set_oRowK : (oRowK L).view.set = rowSet (cL L) (iL L) := by
  show (((oV).view.slice (rowK L)).reshape S16 squeezes_S1x16_S16.numel_eq).set = ((oV).view.slice (row (wid (cL L) (iL L)))).set
  rw [View.set_reshape]
  exact rowK_eq L ▸ rfl

theorem pts_oRowK (f : Buf (Elt F) (oLoc d)) :
    ((oRowK L).view.loc (VT d L) ↦[(oRowK L).view.set]{fullShare} f : sProp 𝕄) = oRow d (cL L) (iL L) f := by
  rw [set_oRowK]

/-- The words the task's own view of its row reads are the row's words. -/
theorem done_of {f : Buf (Elt F) (oLoc d)} (h : Ac G 16 ((oRowK L).view.read (Elt F) f)) : ∀ x ∈ rowSet (cL L) (iL L), G.acc 16 (f x) := by
  intro x hx
  rw [← set_oRowK] at hx
  obtain ⟨y, -, rfl⟩ := Finset.mem_map.mp hx
  exact h.all y

theorem pts_scratch (b : Ref sig .scVector) (f : Buf (Elt F) ((VT d L).loc b)) :
    ((Memref.whole b).view.loc (VT d L) ↦[(Memref.whole b).view.set]{fullShare} f : sProp 𝕄) = (VT d L).loc b ↦{fullShare} f := by
  show ((VT d L).loc b ↦[(View.whole b).set]{fullShare} f : sProp 𝕄) = _
  rw [View.set_whole]

abbrev g4 (d : Dev nD) (c : Fin τ.nSC) (i : Fin τ.nSub) : GSem nD τ sig := (V d c i, .dma cc0_scratch4.sem)
abbrev g5 (d : Dev nD) (c : Fin τ.nSC) (i : Fin τ.nSub) : GSem nD τ sig := (V d c i, .dma cc0_scratch5.sem)
abbrev g6 (d : Dev nD) (c : Fin τ.nSC) (i : Fin τ.nSub) : GSem nD τ sig := (V d c i, .dma cc0_scoped0.sem)

/-- The tile's semaphores other than the task's three. -/
abbrev restSems (d : Dev nD) (L : grid0.Coords) : sProp 𝕄 :=
  bigSep ((((ownCells (VT d L)).erase (g4 d (cV L) (jV L))).erase (g5 d (cV L) (jV L))).erase (g6 d (cV L) (jV L))) fun g => semVal g 0

theorem ownSems0_V : (ownSems0 (VT d L) : sProp 𝕄)
    = iprop(semVal (g4 d (cV L) (jV L)) 0 ∗ semVal (g5 d (cV L) (jV L)) 0 ∗ semVal (g6 d (cV L) (jV L)) 0 ∗ restSems d L) := by
  unfold SparseCore.Cfg.ownSems0
  rw [SparseCore.bigSep_erase' ((mem_ownCells (g := g4 d (cV L) (jV L))).mpr ⟨rfl, by
      show (SemLoc.dma cc0_scratch4.sem : SemLoc sig).isScoped .scVector = true; decide⟩),
    SparseCore.bigSep_erase' (Finset.mem_erase.mpr ⟨by simp [g4, g5]; decide, (mem_ownCells (g := g5 d (cV L) (jV L))).mpr ⟨rfl, by
      show (SemLoc.dma cc0_scratch5.sem : SemLoc sig).isScoped .scVector = true; decide⟩⟩),
    SparseCore.bigSep_erase' (Finset.mem_erase.mpr ⟨by simp [g5, g6]; decide, Finset.mem_erase.mpr ⟨by simp [g4, g6]; decide,
      (mem_ownCells (g := g6 d (cV L) (jV L))).mpr ⟨rfl, by show (SemLoc.dma cc0_scoped0.sem : SemLoc sig).isScoped .scVector = true; decide⟩⟩⟩)]

abbrev dref (L : grid0.Coords) (b : Ref sig .scVector) : DevRef τ sig := (Proc.scVector (cV L) (jV L)).devRef b
theorem dref_ne {L : grid0.Coords} {b b' : Ref sig .scVector} (h : b ≠ b') : dref L b ≠ dref L b' := fun e => h (Proc.devRef_injective _ e)

/-- The tile's buffers other than the task's four. -/
abbrev restBufs (d : Dev nD) (L : grid0.Coords) : sProp 𝕄 :=
  bigSep (((((ownRefs (τ := τ) (.scVector (cV L) (jV L))).erase (dref L cc0_scratch0)).erase (dref L cc0_scratch1)).erase (dref L cc0_scratch2)).erase
    (dref L cc0_scratch3)) fun b => iprop(∃ f, ((d, b) : Loc nD τ sig) ↦{fullShare} f)

theorem ownBufs_V : (ownBufs (VT d L) : sProp 𝕄)
    = iprop((∃ f, (VT d L).loc cc0_scratch0 ↦{fullShare} f) ∗ (∃ f, (VT d L).loc cc0_scratch1 ↦{fullShare} f)
        ∗ (∃ f, (VT d L).loc cc0_scratch2 ↦{fullShare} f) ∗ (∃ f, (VT d L).loc cc0_scratch3 ↦{fullShare} f) ∗ restBufs d L) := by
  unfold SparseCore.Cfg.ownBufs
  refine (SparseCore.bigSep_erase' (SparseCore.Cfg.mem_ownRefs_of_owner (p := Proc.scVector (cV L) (jV L)) (b := dref L cc0_scratch0) rfl)).trans ?_
  have h1 : dref L cc0_scratch1 ∈ (ownRefs (τ := τ) (.scVector (cV L) (jV L))).erase (dref L cc0_scratch0) :=
    Finset.mem_erase.mpr ⟨dref_ne (by decide), SparseCore.Cfg.mem_ownRefs_of_owner (p := Proc.scVector (cV L) (jV L)) (b := dref L cc0_scratch1) rfl⟩
  have h2 : dref L cc0_scratch2 ∈ ((ownRefs (τ := τ) (.scVector (cV L) (jV L))).erase (dref L cc0_scratch0)).erase (dref L cc0_scratch1) :=
    Finset.mem_erase.mpr ⟨dref_ne (by decide), Finset.mem_erase.mpr ⟨dref_ne (by decide),
      SparseCore.Cfg.mem_ownRefs_of_owner (p := Proc.scVector (cV L) (jV L)) (b := dref L cc0_scratch2) rfl⟩⟩
  have h3 : dref L cc0_scratch3 ∈ (((ownRefs (τ := τ) (.scVector (cV L) (jV L))).erase (dref L cc0_scratch0)).erase (dref L cc0_scratch1)).erase (dref L cc0_scratch2) :=
    Finset.mem_erase.mpr ⟨dref_ne (by decide), Finset.mem_erase.mpr ⟨dref_ne (by decide), Finset.mem_erase.mpr ⟨dref_ne (by decide),
      SparseCore.Cfg.mem_ownRefs_of_owner (p := Proc.scVector (cV L) (jV L)) (b := dref L cc0_scratch3) rfl⟩⟩⟩
  rw [SparseCore.bigSep_erase' h1, SparseCore.bigSep_erase' h2, SparseCore.bigSep_erase' h3]

theorem tile_body (hm : Gd G (s := S4x8192x64) (m (xLoc d))) (hF : (K (F := F)).Facts) (O : CellTallies nD τ sig (HIx 1)) (W : Waits sig (HIx 1))
    (hO : ∀ g, O g none = 0) :
    iprop(levAts (K (F := F)).L (K (F := F)).lev ∗ emp
        ∗ (xPts m d (tileShare (cL L) (iL L)) ∗ oRow d (cL L) (iL L) (m (oLoc d)))
        ∗ scopedBufs (VT d L) ∗ scopedSems0 (VT d L) ∗ owes (VT d L) O W)
      ⊢ wp frame (wpE (defs₀ (F := F)) Variants.none (VT d L) none) Set.univ
          (cc0_body (F := F) L xV (Memref.isWhole_whole _) oV (Memref.isWhole_whole _) aV (Memref.isWhole_whole _) bV (Memref.isWhole_whole _)
            tV (Memref.isWhole_whole _) sV (Memref.isWhole_whole _) cc0_scratch4 cc0_scratch5 cc0_scoped0)
          fun _ => iprop((xPts m d (tileShare (cL L) (iL L)) ∗ oDone G d (cL L) (iL L))
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V, x_reads]
  iintro ⟨#Hlv, -, ⟨⟨Hx0, Hx1⟩, Ho⟩, ⟨⟨%fa, Ha⟩, ⟨%fb, Hb⟩, ⟨%ft, Ht⟩, ⟨%fs, Hs⟩, Hbufs⟩, ⟨H4, H5, H6, Hsems⟩, HO⟩
  ihave Hmw := (show levAts (K (F := F)).L (K (F := F)).lev ⊢ Transfers.MayWaits (VT d L) (default : HIx 1) O from
    (K (F := F)).mayWaits_none (thr := VT d L) hO) $$ Hlv
  ihave Ho := (Entails.of_eq (pts_oRowK (F := F) d L _).symm) $$ Ho
  ihave Ha := (Entails.of_eq (pts_scratch (F := F) d L cc0_scratch0 _).symm) $$ Ha
  ihave Hb := (Entails.of_eq (pts_scratch (F := F) d L cc0_scratch1 _).symm) $$ Hb
  ihave Ht := (Entails.of_eq (pts_scratch (F := F) d L cc0_scratch2 _).symm) $$ Ht
  ihave Hs := (Entails.of_eq (pts_scratch (F := F) d L cc0_scratch3 _).symm) $$ Hs
  have hrun := tile_run G m d L (readShare (cL L) (iL L) 0) (readShare (cL L) (iL L) 1) hm O W (m (oLoc d)) fa fb ft fs
  generalize (cc0_body (F := F) L xV (Memref.isWhole_whole _) oV (Memref.isWhole_whole _) aV (Memref.isWhole_whole _) bV (Memref.isWhole_whole _)
    tV (Memref.isWhole_whole _) sV (Memref.isWhole_whole _) cc0_scratch4 cc0_scratch5 cc0_scoped0) = prog at hrun ⊢
  iapply (wp_wand_r frame _ Set.univ)
  isplitl [Hx0 Hx1 Ho Ha Hb Ht Hs H4 H5 H6 HO]
  · iapply hrun
    isplitl []; · iexact Hmw
    isplitl [Hx0]; · iexact Hx0
    isplitl [Hx1]; · iexact Hx1
    isplitl [Ho]; · iexact Ho
    isplitl [Ha]; · iexact Ha
    isplitl [Hb]; · iexact Hb
    isplitl [Ht]; · iexact Ht
    isplitl [Hs]; · iexact Hs
    isplitl [H4 H5 H6]
    · isplitl [H4]; · iexact H4
      isplitl [H5]; · iexact H5
      iexact H6
    iexact HO
  iintro %_ ⟨Hx0, Hx1, ⟨%f, %hf, Ho⟩, ⟨%fa', Ha⟩, ⟨%fb', Hb⟩, ⟨%ft', Ht⟩, ⟨%fs', Hs⟩, ⟨H4, H5, H6⟩, ⟨%W', HO⟩⟩
  isplitl [Hx0 Hx1 Ho]
  · isplitl [Hx0 Hx1]
    · isplitl [Hx0] <;> iassumption
    iexists f
    isplitr
    · ipureintro; exact done_of G d L hf
    iapply (Entails.of_eq (pts_oRowK (F := F) d L _)); iexact Ho
  isplitl [Ha Hb Ht Hs Hbufs]
  · isplitl [Ha]; · iexists _; iapply (Entails.of_eq (pts_scratch (F := F) d L cc0_scratch0 _)); iexact Ha
    isplitl [Hb]; · iexists _; iapply (Entails.of_eq (pts_scratch (F := F) d L cc0_scratch1 _)); iexact Hb
    isplitl [Ht]; · iexists _; iapply (Entails.of_eq (pts_scratch (F := F) d L cc0_scratch2 _)); iexact Ht
    isplitl [Hs]; · iexists _; iapply (Entails.of_eq (pts_scratch (F := F) d L cc0_scratch3 _)); iexact Hs
    iexact Hbufs
  isplitl [H4 H5 H6 Hsems]
  · isplitl [H4]; · iexact H4
    isplitl [H5]; · iexact H5
    isplitl [H6]; · iexact H6
    iexact Hsems
  iexists W'
  isplitr
  · ipureintro; intro p _
    rcases p.2 with _ | q
    · exact .inr (.inl rfl)
    · exact .inr (.inr (congrArg some (Subsingleton.elim q 0)))
  iexact HO

end Task

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_body (coordsV c s)
          xV (Memref.isWhole_whole _) oV (Memref.isWhole_whole _) aV (Memref.isWhole_whole _) bV (Memref.isWhole_whole _)
          tV (Memref.isWhole_whole _) sV (Memref.isWhole_whole _) cc0_scratch4 cc0_scratch5 cc0_scoped0) ⟨⟩ c s := rfl

theorem tileObl (hm : ∀ d : Dev nD, Gd G (s := S4x8192x64) (m (xLoc d))) : (K (F := F)).TileObl (D (F := F)) 𝒱 (P G m) v₀ 0 := by
  intro d c i O W hO _ _
  simp only [show (P G m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) Variants.none _ Set.univ none _ _)
  rw [defs₀_vector]; simp only [SparseCore.onTile, hci, and_self, ↓reduceDIte]
  have hb := tile_body G m d (coordsV ⟨_, hci.1⟩ ⟨_, hci.2⟩) (hm d) facts O W hO
  generalize (cc0_body (F := F) (coordsV ⟨_, hci.1⟩ ⟨_, hci.2⟩) xV (Memref.isWhole_whole _) oV (Memref.isWhole_whole _) aV (Memref.isWhole_whole _) bV (Memref.isWhole_whole _)
    tV (Memref.isWhole_whole _) sV (Memref.isWhole_whole _) cc0_scratch4 cc0_scratch5 cc0_scoped0) = prog at hb ⊢
  exact hb

end Cert.Proof.Deal

end
-- ==== Proof.Launch.lean ====
/-
  The whole program: the SparseCore call, the TensorCore call, and the six operations that add the two partial
  results and scale them. Every run ends with the input as it was, every semaphore at zero, and the result the scaled
  sum (`resOf`) of some partial results whose words are what the two calls' proofs say of them.
-/
module

public import proofs.«01_k».proof.Proof.Deal

@[expose] public section

noncomputable section

namespace Cert.Proof.Launch

open Cert.KernelIdeal Cert.KernelIdeal.Gen Cert.Proof.Rows Cert.Proof.TcBody Cert.Proof.Deal

open Idealize.ShloMosaic
open Idealize.ShloMosaic.SparseCore (S V T)
open Idealize.ShloMosaic.SparseCore.Cfg (HIx Pay)
open Idealize.ShloMosaic.StableHlo (held after)
open Idealize.ShloMosaic.Pipeline (RDat cellsGhost toksInit)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The ghost state: the SparseCore call's, the TensorCore call's -/

abbrev UH : Type := URounds (GSem nD τ sig) ℕ
abbrev UP : Type := URounds (GSem nD τ sig) Unit
abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

abbrev pc : Fin 1 → Pipeline.Cfg sig Λ₀ := Pipeline.pin (pcfgs (F := F)) TcRegion.adm
theorem pinj : Function.Injective (Pipeline.cellOf (nD := nD) (τ := τ) (pc (F := F))) := cellOf_inj

abbrev ghost (d : Dev nD) : sProp 𝕄 := iprop(cellsGhost (pc (F := F)) EP 0 d ∗ toksInit (pc (F := F)) EP 0 d)

variable {G : Vals F} (H : TcVals G) (m : (ℓ : Loc nD τ sig) → Buf (Elt F) ℓ) (ρ : Dev nD → PrngReg)

def u₀ : UU := (initOf (K (F := F)).hsCells (K (F := F)).hsToks, (initOf (Pipeline.cells (pc (F := F)) pinj) (Pipeline.launchToks (pc (F := F)) pinj), 1))

theorem split_u (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem nothing_each {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (P G m).x q thr) := by
  unfold u₀
  iintro Hu
  ihave H := (split_u _ _) $$ Hu
  icases H with ⟨HH, HP⟩
  imod (Pipeline.fund_ghost (pc (F := F)) EP pinj) $$ HP with ⟨Hg, Ht⟩
  imodintro
  isplitl [HH]; · iexact HH
  isplitl [Hg Ht]
  · rw [bigSep_sep']
    isplitl [Hg]
    · rw [show (bigSep Finset.univ fun d : Dev nD => cellsGhost (pc (F := F)) EP 0 d : sProp 𝕄)
          = bigSep Finset.univ fun d : Dev nD => bigSep Finset.univ fun p : Fin 1 => cellsGhost (pc (F := F)) EP p d from
        bigSep_congr fun d _ => (bigSep_univ_of_subsingleton (Φ := fun p => (cellsGhost (pc (F := F)) EP p d : sProp 𝕄)) (0 : Fin 1)).symm]
      iexact Hg
    rw [show (bigSep Finset.univ fun d : Dev nD => toksInit (pc (F := F)) EP 0 d : sProp 𝕄)
        = bigSep Finset.univ fun d : Dev nD => bigSep Finset.univ fun p : Fin 1 => toksInit (pc (F := F)) EP p d from
      bigSep_congr fun d _ => (bigSep_univ_of_subsingleton (Φ := fun p => (toksInit (pc (F := F)) EP p d : sProp 𝕄)) (0 : Fin 1)).symm]
    iexact Ht
  rw [show (bigSep Finset.univ fun thr : Thread nD τ => bigSep Finset.univ fun q : Fin 1 => (P G m).x q thr) = bigSep Finset.univ fun _ => iprop(emp) from
    bigSep_congr fun _ _ => bigSep_univ_of_subsingleton (0 : Fin 1), nothing_each]
  iempintro

/-! ## The TensorCore call -/

theorem region (hm : ∀ d : Dev nD, Gd G (s := S4x8192x64) (m (xLoc d))) [∀ e, Nonempty (Elt F e)] (d : Dev nD) :
    iprop(boundary (SparseCore.T d : Thread nD τ) ∗ TcRegion.pre m d ∗ levAts (K (F := F)).L (K (F := F)).lev ∗ ghost d)
      ⊢ wp frame (wpE ((K (F := F)).defs (D (F := F))) 𝒱 (SparseCore.T d) none) Set.univ
          (Prog.lift (.customCall (SparseCore.inner (Pipeline.entry 0)) ()))
          fun _ => iprop(boundary (SparseCore.T d : Thread nD τ) ∗ TcRegion.post H m d) := by
  have h := Pipeline.RDat.RegionSeg.wp (pcfgs (F := F)) TcRegion.adm (TcRegion.rdats H m) none pinj EP (defs₀ (F := F)) Variants.none (K (F := F)).L (K (F := F)).lev
    (TcRegion.seg H m hm) d none (fun u hu => nomatch hu) (α := PUnit) (fun _ => .ret PUnit.unit) (fun _ => iprop(boundary (SparseCore.T d : Thread nD τ) ∗ TcRegion.post H m d))
  have e : (Prog.lift (.customCall (SparseCore.inner (Pipeline.entry 0)) ()) : Prog (TpuEff nD τ sig (Elt F) (SparseCore.Sig (Pipeline.Sig Λ₀ (Fin 1) fun p => (pcfgs (F := F) p).Adm) 1) .tc) PUnit)
      = SparseCore.liftProg (pr := .tc) (.op (TpuEff.customCall (Pipeline.entry (0 : Fin 1)) ()) fun _ => .ret PUnit.unit) := by
    rw [SparseCore.liftProg_op]; rfl
  rw [e]
  have h2 := ((K (F := F)).wp_liftProg (D (F := F)) 𝒱 (SparseCore.T d) (Set.univ : Set ℕ) none (.op (.customCall (Pipeline.entry 0) ()) fun _ => .ret PUnit.unit)
    (fun _ => iprop(boundary (SparseCore.T d : Thread nD τ) ∗ TcRegion.post H m d)))
  refine BIBase.Entails.trans ?_ h2
  refine BIBase.Entails.trans ?_ h
  rw [show (TcRegion.seg H m hm).pre d = TcRegion.pre m d from rfl, show (TcRegion.seg H m hm).post d = TcRegion.post H m d from rfl]
  iintro ⟨Hb, Hp, Hl, Hg, Ht⟩
  isplitr
  · iintro ⟨Hb, Hp⟩
    iapply (le_wp_ret _ _ _ PUnit.unit _)
    isplitl [Hb]; · iexact Hb
    iexact Hp
  isplitl [Hb]; · iexact Hb
  isplitl [Hp]; · iexact Hp
  isplitl [Hl]; · iexact Hl
  isplitl [Hg]; · iexact Hg
  iexact Ht

/-! ## The operations after the calls -/

abbrev x' : DevRef τ sig := (Proc.tc : Proc τ).devRef main_arg0
abbrev p' : DevRef τ sig := (Proc.tc : Proc τ).devRef main_v0
abbrev t' : DevRef τ sig := (Proc.tc : Proc τ).devRef main_v1
abbrev z' : DevRef τ sig := (Proc.tc : Proc τ).devRef main_cst
abbrev a' : DevRef τ sig := (Proc.tc : Proc τ).devRef main_v2
abbrev b' : DevRef τ sig := (Proc.tc : Proc τ).devRef main_v3
abbrev c' : DevRef τ sig := (Proc.tc : Proc τ).devRef main_v4
abbrev k' : DevRef τ sig := (Proc.tc : Proc τ).devRef main_cst_0
abbrev r' : DevRef τ sig := (Proc.tc : Proc τ).devRef main_v5

abbrev all : Finset (DevRef τ sig) := {x', p', t', z', a', b', c', k', r'}

abbrev tail : List (HloOp τ sig (Elt F)) :=
  [StableHlo.nullary main_cst (constant S_ .f32 0x00000000#32),
   StableHlo.binary main_v0 main_cst main_v2 (fun x v => Host.reduceAdd x v reducesTo_S32x16_S_d0_1 h_S_),
   StableHlo.reshape main_v1 main_v3 rfl shapeCasts_S1x1_S_,
   StableHlo.binary main_v2 main_v3 main_v4 addf,
   StableHlo.nullary main_cst_0 (constant S_ .f32 0x37A3D70A#32),
   StableHlo.binary main_v4 main_cst_0 main_v5 mulf]

/-- The result, of the 32 x 16 partial sums and the one-word partial sum. -/
def resOf (p : FVec F S32x16 .f32) (t : FVec F S1x1 .f32) : FVec F S_ .f32 :=
  mulf (addf (Host.reduceAdd p (constant S_ .f32 0x00000000#32) reducesTo_S32x16_S_d0_1 h_S_) (shapeCast S_ t shapeCasts_S1x1_S_))
    (constant S_ .f32 0x37A3D70A#32)

/-- The arrays after the calls. -/
def V1 (d : Dev nD) (p : FVec F S32x16 .f32) (t : FVec F S1x1 .f32) : Valuation τ sig (Elt F) :=
  Function.update (Function.update (fun b => m (d, b)) p' p) t' t

theorem tail_x (d : Dev nD) (p : FVec F S32x16 .f32) (t : FVec F S1x1 .f32) : after (tail (F := F)) (V1 m d p t) x' = m (xLoc d) := by
  simp only [StableHlo.after_cons, StableHlo.after_nil]
  rw [StableHlo.binary_result_ne, StableHlo.nullary_result_ne, StableHlo.binary_result_ne, StableHlo.reshape_result_ne, StableHlo.binary_result_ne,
    StableHlo.nullary_result_ne] <;> first | decide | skip
  exact (Function.update_of_ne (show x' ≠ t' by decide) _ _).trans (Function.update_of_ne (show x' ≠ p' by decide) _ _)

theorem tail_r (d : Dev nD) (p : FVec F S32x16 .f32) (t : FVec F S1x1 .f32) : after (tail (F := F)) (V1 m d p t) r' = resOf p t := by
  have hp : V1 m d p t p' = p := (Function.update_of_ne (show p' ≠ t' by decide) _ _).trans (Function.update_self _ _ _)
  have ht : V1 m d p t t' = t := Function.update_self _ _ _
  after_results
  rw [hp, ht]
  rfl

theorem held_all (d : Dev nD) (W : Valuation τ sig (Elt F)) :
    (held (SparseCore.T d) all W : sProp 𝕄)
      = iprop((xLoc d ↦{fullShare} W x') ∗ (oLoc d ↦{fullShare} W p') ∗ ((SparseCore.T d).loc main_v1 ↦{fullShare} W t')
          ∗ ((SparseCore.T d).loc main_cst ↦{fullShare} W z') ∗ ((SparseCore.T d).loc main_v2 ↦{fullShare} W a') ∗ ((SparseCore.T d).loc main_v3 ↦{fullShare} W b')
          ∗ ((SparseCore.T d).loc main_v4 ↦{fullShare} W c') ∗ ((SparseCore.T d).loc main_cst_0 ↦{fullShare} W k') ∗ ((SparseCore.T d).loc main_v5 ↦{fullShare} W r')) := by
  unfold held all
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

theorem unscoped_eq (d : Dev nD) :
    (unscopedBufs d (fun b => m ((SparseCore.T d).loc b)) : sProp 𝕄) = held (SparseCore.T d) all (fun b => m (d, b)) := by
  rw [held_all]
  unfold unscopedBufs
  rw [show (Finset.univ.filter fun b : Ref sig .tc => ¬ b.isScoped) = {main_arg0, main_v0, main_v1, main_cst, main_v2, main_v3, main_v4, main_cst_0, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

theorem tail_bufs : ∀ op ∈ tail (F := F), op.bufs ⊆ all := by
  intro op hop
  simp only [tail, List.mem_cons, List.not_mem_nil, or_false] at hop
  rcases hop with rfl | rfl | rfl | rfl | rfl | rfl
  · exact show ({z'} : Finset (DevRef τ sig)) ⊆ all by decide
  · exact show ({p', z', a'} : Finset (DevRef τ sig)) ⊆ all by decide
  · exact show ({t', b'} : Finset (DevRef τ sig)) ⊆ all by decide
  · exact show ({a', b', c'} : Finset (DevRef τ sig)) ⊆ all by decide
  · exact show ({k'} : Finset (DevRef τ sig)) ⊆ all by decide
  · exact show ({c', k', r'} : Finset (DevRef τ sig)) ⊆ all by decide

theorem tail_fresh : ∀ op ∈ tail (F := F), op.fresh = ∅ := by
  intro op hop
  simp only [tail, List.mem_cons, List.not_mem_nil, or_false] at hop
  rcases hop with rfl | rfl | rfl | rfl | rfl | rfl <;> rfl

/-- What the program leaves: the input, and the result of some partial sums. -/
abbrev FIN (H : TcVals G) (d : Dev nD) : sProp 𝕄 :=
  iprop((xPts m d fullShare) ∗ ∃ (p : FVec F S32x16 .f32) (t : FVec F S1x1 .f32), ⌜(∀ x, G.acc 16 (p x)) ∧ ∀ x, H.sum 32 (t x)⌝
    ∗ ((SparseCore.T d).loc main_v5 ↦{fullShare} resOf p t))

theorem main_eq (d : Dev nD) : (main (F := F) d) = ((K (F := F)).run d 0 >>= fun _ =>
    (Prog.lift (.customCall (SparseCore.inner (Pipeline.entry 0)) ()) : Prog _ PUnit) >>= fun _ => StableHlo.seq (tail (F := F)) >>= fun _ => pure ⟨⟩) := by
  rw [show (StableHlo.seq (tail (F := F)) >>= fun _ => pure ⟨⟩ : Prog _ PUnit) = StableHlo.seq (tail (F := F)) from bind_pure _]
  rfl

theorem hmain (hm : ∀ d : Dev nD, Gd G (s := S4x8192x64) (m (xLoc d))) [∀ e, Nonempty (Elt F e)] (κ : GSem nD τ sig → ℕ) (d : Dev nD) :
    iprop((K (F := F)).ctx EH (P G m) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m H d ∗ (K (F := F)).tcEnd d) := by
  unfold SparseCore.Cfg.tcRes SparseCore.Cfg.tcEnd
  rw [unscoped_eq, held_all, main_eq, wp_bind]
  iintro ⟨#Hctx, Hst, ⟨Hb, ⟨Hx, Ho, Hv1, Hcst, Hv2, Hv3, Hv4, Hcst0, Hv5⟩, Hts, -⟩, Hg⟩
  iapply ((K (F := F)).wp_run (D (F := F)) 𝒱 (EH := EH) (P := P G m) κ d 0)
  isplitr; · iexact Hctx
  isplitl [Hst]; · iexact Hst
  isplitl [Hx Ho]
  · rw [st_eq]
    isplitl [Hx]; · iexact Hx
    iexact Ho
  iintro ⟨Hst, Hdn⟩
  ihave Hdn := (dn_join G m d) $$ Hdn
  icases Hdn with ⟨Hx, ⟨%p, %hp, Ho⟩⟩
  ihave Hlv := (SparseCore.Cfg.ctx_levAts (K := K (F := F)) (EH := EH) (P := P G m) κ) $$ Hctx
  rw [wp_bind]
  unfold SparseCore.Cfg.tcSt
  icases Hst with ⟨⟨%W, %hW, HO⟩, Hst⟩
  iapply (wp_wand_r frame _ Set.univ)
  isplitl [Hb Hx Hv1 HO Hg]
  · iapply (region H m hm d)
    isplitl [Hb]; · iexact Hb
    isplitl [Hx Hv1 HO]
    · unfold TcRegion.pre TcRegion.owesB
      isplitl [Hx]; · iexact Hx
      isplitl [Hv1]; · iexact Hv1
      iexists W
      isplitr
      · ipureintro; exact hW
      rw [← (K (F := F)).Otc_end d (n := 1) le_rfl]
      iexact HO
    isplitr; · iexact Hlv
    iexact Hg
  iintro %_ ⟨Hb, Hpost⟩
  unfold TcRegion.post TcRegion.owesB
  icases Hpost with ⟨Hx, ⟨%t, %ht, Hv1⟩, ⟨%W', %hW', HO⟩⟩
  iapply (StableHlo.wp_seq 𝒱 none Set.univ d all (fun _ => pure ⟨⟩) (tail (F := F)) tail_bufs tail_fresh (V1 m d p t)) $$ [Hb Hx Ho Hv1 Hcst Hv2 Hv3 Hv4 Hcst0 Hv5]
  · isplitl [Hb]; · iexact Hb
    iapply (Entails.of_eq (held_all (F := F) d (V1 m d p t)).symm)
    isplitl [Hx]; · iexact Hx
    isplitl [Ho]; · iexact Ho
    isplitl [Hv1]; · iexact Hv1
    isplitl [Hcst]; · iexact Hcst
    isplitl [Hv2]; · iexact Hv2
    isplitl [Hv3]; · iexact Hv3
    isplitl [Hv4]; · iexact Hv4
    isplitl [Hcst0]; · iexact Hcst0
    iexact Hv5
  iintro ⟨Hb, Hheld⟩
  ihave Hheld := (Entails.of_eq (held_all (F := F) d _)) $$ Hheld
  icases Hheld with ⟨Hx, -, -, -, -, -, -, -, Hr⟩
  iapply (le_wp_ret _ _ _ PUnit.unit _)
  isplitl [HO Hst]
  · isplitl [HO]
    · iexists W'
      isplitr
      · ipureintro; exact hW'
      rw [(K (F := F)).Otc_end d (n := 1) le_rfl]
      iexact HO
    iexact Hst
  isplitl [Hx Hr]
  · rw [tail_x, tail_r]
    isplitl [Hx]; · iexact Hx
    iexists p, t
    isplitr
    · ipureintro; exact ⟨hp, ht⟩
    iexact Hr
  isplitl [Hb] <;> iassumption

/-! ## Every run -/

def fq (H : TcVals G) (d : Dev nD) (s' : Phys nD τ sig (Elt F)) : Prop :=
  s'.mem.mem (xLoc d) = m (xLoc d) ∧ ∃ (p : FVec F S32x16 .f32) (t : FVec F S1x1 .f32), ((∀ x, G.acc 16 (p x)) ∧ ∀ x, H.sum 32 (t x))
    ∧ s'.mem.mem ((SparseCore.T d).loc main_v5) = resOf p t

theorem hfin (d : Dev nD) (s' : Phys nD τ sig (Elt F)) : iprop(FIN m H d ∗ SI s') ⊢ (⌜fq m H d s'⌝ : sProp 𝕄) := by
  iintro ⟨⟨Hx, ⟨%p, %t, %hpt, Hr⟩⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (SI_pointsTo_agree (st := s') (ℓ := (SparseCore.T d).loc main_v5) (I := Finset.univ) (q := fullShare) (f := resOf p t)) $$ [HSI Hr]
  · isplitl [HSI] <;> iassumption
  icases H with %hr
  ipureintro
  exact ⟨funext fun i => hx i (Finset.mem_univ i), p, t, hpt, funext fun i => hr i (Finset.mem_univ i)⟩

def QC (H : TcVals G) : PUnit × MemSt nD τ sig (Elt F) → Prop := fun r =>
  (∀ d : Dev nD, r.2.mem (xLoc d) = m (xLoc d) ∧ ∃ (p : FVec F S32x16 .f32) (t : FVec F S1x1 .f32), ((∀ x, G.acc 16 (p x)) ∧ ∀ x, H.sum 32 (t x))
    ∧ r.2.mem ((SparseCore.T d).loc main_v5) = resOf p t) ∧ r.2.sem = fun _ => 0

theorem run_main (hm : ∀ d : Dev nD, Gd G (s := S4x8192x64) (m (xLoc d))) [∀ e, Nonempty (Elt F e)] :
    θ_run (Cert.KernelIdeal.defs (F := F)) (Cert.KernelIdeal.threads (F := F)) ⟨m, fun _ => 0, ρ⟩ (QC m H) :=
  SparseCore.Cfg.θ_run_sc_quiescent (K := K (F := F)) (D := D (F := F)) (𝒱 := 𝒱) (EH := EH) (P := P G m) (A := ∅) facts v₀
    (fun q hq => match q with | 0 => nomatch hq)
    (fun q _ => match q with | 0 => tileObl G m hm)
    (fun q _ => match q with | 0 => SparseCore.Cfg.VecSplit.of_plain (vecSplit G m))
    m ρ main (fun d => ghost d) (FIN m H) (u₀ (F := F)) (sep_elim_left.trans (hu₀ (G := G) m)) (hmain H m ρ hm) (fq m H) (hfin H m) (QC m H) (fun _ h hz => ⟨h, hz⟩)

end Cert.Proof.Launch

end
-- ==== Proof.Frames.lean ====
/-
  The kernel's frames: the run of the launch with nothing said of any number. The kernel's text is the same
  at both readings of floats, so one run, over any float values, gives both.
-/
module

public import proofs.«01_k».proof.Defs
public import proofs.«01_k».proof.Proof.Gen.Kernel
public import proofs.«01_k».proof.Proof.Gen.Pre_finite
public import proofs.«01_k».proof.Proof.Launch

@[expose] public section

noncomputable section

namespace Cert.Proof

open Idealize.ShloMosaic Idealize.SL.Sem Cert.Proof.Rows Cert.Proof.TcBody

variable {F : FTy → Type} [FloatOps F]

/-- Nothing said of any number of a tile. -/
def anyVals (F : FTy → Type) [FloatOps F] : Vals F where
  good _ := True
  part _ := True
  acc _ _ := True
  good_max _ _ := trivial
  good_min _ _ := trivial
  part_share _ _ := trivial
  acc_zero := trivial
  acc_succ _ _ _ := trivial

/-- Nothing said of the TensorCore call's running sum. -/
def anyTc (F : FTy → Type) [FloatOps F] : TcVals (anyVals F) where
  sum _ _ := True
  zero := trivial
  step _ _ _ := trivial

/-- The kernel runs, leaves its argument alone and its counters at zero, over any float values. -/
theorem run_any (m : (ℓ : Loc Cert.KernelIdeal.nD Cert.KernelIdeal.τ Cert.KernelIdeal.sig) → Buf (Elt F) ℓ)
    (ρ : Dev Cert.KernelIdeal.nD → PrngReg) [∀ e, Nonempty (Elt F e)] :
    θ_run (Cert.KernelIdeal.defs (F := F)) (Cert.KernelIdeal.threads (F := F)) ⟨m, fun _ => 0, ρ⟩ fun r =>
      (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)) ∧ r.2.sem = fun _ => 0 :=
  (θ_run Cert.KernelIdeal.defs _ _).mono (fun _ h => ⟨fun c => (h.1 c).1, h.2⟩)
    (Launch.run_main (anyTc F) m ρ fun _ => ⟨fun _ => trivial⟩)

theorem frame_kernelIdeal : Cert.quiescent_KernelIdeal := fun m ρ _ => run_any (F := Ideal) m ρ

theorem frame_kernelIdeal_finite : Cert.quiescent_KernelIdeal_pre_finite := fun m ρ _ => run_any (F := Ideal) m ρ

/-- The two printings of the kernels' body table are one table, processor by processor. -/
theorem defs₀_same : Cert.Kernel.defs₀ (F := Bits) = Cert.KernelIdeal.defs₀ (F := Bits) := by
  funext p
  match p with
  | .tc =>
    funext l a
    match l, a with
    | 0, _ => rfl
    | 1, (t, s) => rfl
  | .scScalar c =>
    funext l a
    match l, a with
    | 0, _ => rfl
    | 1, (t, s) => rfl
  | .scVector c k =>
    funext l a
    match l, a with
    | 0, _ => rfl
    | 1, (t, s) => rfl

/-- And so are the two programs' body tables. -/
theorem defs_same : Cert.Kernel.defs (F := Bits) = Cert.KernelIdeal.defs (F := Bits) := by
  unfold Cert.Kernel.defs Cert.KernelIdeal.defs
  rw [defs₀_same]
  rfl

theorem frame_kernel : Cert.quiescent_Kernel := fun m ρ _ => by
  rw [defs_same]
  exact run_any (F := Bits) m ρ

end Cert.Proof

end
-- ==== Proof.Softmax.lean ====
/-
  The arithmetic of one row, over the extended reals. Eight weights that are real, none negative and the
  first of them 1, have shares that sum to 1: so what a row adds to the loss doesn't depend on its
  entries. From it, what a tile says of the numbers it meets (`vals`): an entry is a real number, a row's
  contribution is 1/8, and the running sum after `n` trips, each of two rows a lane, is `n/4`.
-/
module

public import Idealize.ShloMosaic.PureOps.Ideal
public import Idealize.ShloMosaic.Lib.IdealHost
public import proofs.«01_k».proof.Proof.Rows

@[expose] public section

noncomputable section

namespace Cert.Proof.Softmax

open Idealize.ShloMosaic Cert.Proof.Rows

/-- An extended real that is a real number. -/
def IsReal (x : EReal) : Prop := x ≠ ⊥ ∧ x ≠ ⊤

theorem IsReal.coe {x : EReal} (h : IsReal x) : ∃ r : ℝ, x = r := ⟨x.toReal, (EReal.coe_toReal h.2 h.1).symm⟩

theorem isReal_coe (r : ℝ) : IsReal (r : EReal) := ⟨EReal.coe_ne_bot r, EReal.coe_ne_top r⟩

/-- The weight of an entry, `e ^ (x - m)`, is a real number and not negative: zero where the entry is `-∞`. -/
theorem weight {x m : EReal} (hx : x ≠ ⊤) (hm : IsReal m) : ∃ a : ℝ, 0 ≤ a ∧ Ideal.exp (x - m) = a := by
  obtain ⟨r, rfl⟩ := hm.coe
  induction x with
  | bot => exact ⟨0, le_rfl, by rw [EReal.bot_sub, Ideal.exp_bot, EReal.coe_zero]⟩
  | coe y => exact ⟨Real.exp (y - r), (Real.exp_pos _).le, by rw [← EReal.coe_sub, Ideal.exp_coe]⟩
  | top => exact absurd rfl hx

/-- The weight of the largest entry itself is 1. -/
theorem weight_self {m : EReal} (hm : IsReal m) : Ideal.exp (m - m) = 1 := by
  obtain ⟨r, rfl⟩ := hm.coe
  rw [← EReal.coe_sub, sub_self, Ideal.exp_coe, Real.exp_zero, EReal.coe_one]

/-- The shares of eight weights in their whole, added up in the order the kernel adds them. -/
def sharesSum (e : Fin 8 → EReal) : EReal :=
  let t := e 0 + e 1 + e 2 + e 3 + e 4 + e 5 + e 6 + e 7
  Ideal.div (e 0) t + Ideal.div (e 1) t + Ideal.div (e 2) t + Ideal.div (e 3) t + Ideal.div (e 4) t + Ideal.div (e 5) t
    + Ideal.div (e 6) t + Ideal.div (e 7) t

/-- Eight shares of a whole sum to 1. -/
theorem shares_one (e : Fin 8 → EReal) (h0 : e 0 = 1) (h : ∀ j, ∃ a : ℝ, 0 ≤ a ∧ e j = a) : sharesSum e = 1 := by
  choose a ha he using h
  have hpos : 0 < a 0 + a 1 + a 2 + a 3 + a 4 + a 5 + a 6 + a 7 := by
    have h1 : a 0 = 1 := by have := he 0; rw [h0] at this; exact_mod_cast this.symm
    have := ha 1; have := ha 2; have := ha 3; have := ha 4; have := ha 5; have := ha 6; have := ha 7
    linarith
  have hT : e 0 + e 1 + e 2 + e 3 + e 4 + e 5 + e 6 + e 7 = ((a 0 + a 1 + a 2 + a 3 + a 4 + a 5 + a 6 + a 7 : ℝ) : EReal) := by
    simp only [he, EReal.coe_add]
  dsimp only [sharesSum]
  rw [hT]
  simp only [Ideal.div_coe hpos.ne', he, ← EReal.coe_mul, ← EReal.coe_add]
  rw [← EReal.coe_one, EReal.coe_eq_coe_iff]
  field_simp

/-- A sum of reals is the same taken among the extended reals. -/
theorem coe_sum {ι : Type} (s : Finset ι) (f : ι → ℝ) : ((∑ i ∈ s, f i : ℝ) : EReal) = ∑ i ∈ s, (f i : EReal) :=
  map_sum (⟨⟨fun r : ℝ => (r : EReal), EReal.coe_zero⟩, EReal.coe_add⟩ : ℝ →+ EReal) f s

/-- Shares of a whole of positive weights sum to 1. -/
theorem sum_shares_one {n : ℕ} (e : Fin (n + 1) → EReal) (h : ∀ j, ∃ a : ℝ, 0 < a ∧ e j = a) : ∑ k, Ideal.div (e k) (∑ j, e j) = 1 := by
  choose a ha he using h
  obtain rfl : e = fun j => (a j : EReal) := funext he
  have hpos : 0 < ∑ j, a j := Finset.sum_pos (fun j _ => ha j) Finset.univ_nonempty
  simp only [← coe_sum, Ideal.div_coe hpos.ne', ← EReal.coe_mul]
  rw [← Finset.sum_mul, mul_one_div_cancel hpos.ne', EReal.coe_one]

/-- The shares worked out from eight values, of which the first is real and none is `+∞`, are 1 in all. -/
theorem shares_at {m : Fin 8 → EReal} (h0 : IsReal (m 0)) (h : ∀ k, m k ≠ ⊤) : sharesSum (fun k => Ideal.exp (m k - m 0)) = 1 :=
  shares_one _ (weight_self h0) (fun k => weight (h k) h0)

/-- A maximum of values below `+∞` is below it. -/
theorem fold_below {ι : Type} (s : Finset ι) (f : ι → EReal) (h : ∀ i, f i ≠ ⊤) : s.fold max ⊥ f ≠ ⊤ := by
  rw [← lt_top_iff_ne_top, Finset.fold_max_lt]
  exact ⟨bot_lt_top, fun i _ => (h i).lt_top⟩

/-- A maximum is above `-∞` if one of its values is. -/
theorem fold_above {ι : Type} (s : Finset ι) (f : ι → EReal) (i : ι) (hi : i ∈ s) (h : f i ≠ ⊥) : s.fold max ⊥ f ≠ ⊥ := by
  rw [← bot_lt_iff_ne_bot, Finset.lt_fold_max]
  exact Or.inr ⟨i, hi, h.bot_lt⟩

theorem eighth : Ideal.ofBits .f32 0x3E000000#32 = ((1 / 8 : ℝ) : EReal) := by
  simp [Ideal.ofBits, Ideal.ieee, -EReal.coe_mul]; norm_num

theorem zero_f32 : Ideal.ofBits .f32 0x00000000#32 = 0 := by simp [Ideal.ofBits, Ideal.ieee]

theorem neg_inf : Ideal.ofBits .f32 0xFF800000#32 = ⊥ := by simp [Ideal.ofBits, Ideal.ieee]

/-- A row of real entries contributes 1/8. -/
theorem share_real (m : Fin 8 → EReal) (hm : ∀ j, IsReal (m j)) :
    share (F := Ideal) (FloatOps.ofBits .f32 0x3E000000#32)
      (FloatOps.addf (FloatOps.ofBits .f32 0x3F800000#32) (FloatOps.ofBits .f32 0x00000000#32)) m = ((1 / 8 : ℝ) : EReal) := by
  have hone : (1 : EReal) + 0 = Ideal.exp (m 0 - m 0) := by rw [weight_self (hm 0), add_zero]
  have h := shares_at (hm 0) (fun j => (hm j).2)
  dsimp only [sharesSum] at h
  simp only [share, Ideal.ofBits_def, Ideal.addf_def, Ideal.subf_def, Ideal.mulf_def, Ideal.divf_def, Ideal.exp_def,
    eighth, zero_f32, Ideal.ofBits_one_f32, hone]
  rw [h, one_mul]

/-- What a tile says of its numbers, over the extended reals. -/
def vals : Vals Ideal where
  good x := IsReal x
  part x := x = ((1 / 8 : ℝ) : EReal)
  acc n x := x = ((n / 4 : ℝ) : EReal)
  good_max {a b} ha hb := by
    show IsReal (max (a : EReal) b)
    rcases max_choice (a : EReal) b with h | h <;> rw [h] <;> assumption
  good_min {a b} ha hb := by
    show IsReal (min (a : EReal) b)
    rcases min_choice (a : EReal) b with h | h <;> rw [h] <;> assumption
  part_share m hm := share_real m hm
  acc_zero := by
    show Ideal.ofBits .f32 0x00000000#32 = _
    rw [zero_f32]; norm_num
  acc_succ {n a x y} ha hx hy := by
    show (a : EReal) + (x + y) = _
    rw [ha, hx, hy, ← EReal.coe_add, ← EReal.coe_add]
    congr 1; push_cast; ring

end Cert.Proof.Softmax

end
-- ==== Proof.Finite.lean ====
/-
  The precondition that every entry is finite, at an entry: it is a real number.
-/
module

public import Idealize.ShloMosaic.Lib.ReduceAll
public import proofs.«01_k».proof.Proof.Softmax
public import proofs.«01_k».proof.Proof.Gen.Pre_finite

@[expose] public section

noncomputable section

namespace Cert.Proof.Finite

open Cert.Pre_finite Cert.Pre_finite.Facts Cert.Proof.Softmax
open Idealize.ShloMosaic Idealize.ShloMosaic.ValueIdx

theorem pos_inf : Ideal.ofBits .f32 0x7F800000#32 = ⊤ := by simp [Ideal.ofBits, Ideal.ieee]

/-- An extended real whose absolute value is below `+∞` is a real number. -/
theorem isReal_of_abs {x : EReal} (h : max x (-x) < ⊤) : IsReal x := by
  constructor
  · rintro rfl; simp at h
  · rintro rfl; simp at h

/-- Where the precondition holds of an array, its every entry is a real number. -/
theorem real_of_finite (x : FVec Ideal S4x8192x64 .f32) (h : Cert.Pre_finite.fn (F := Ideal) x = fun _ => 1#1) (i : S4x8192x64.Idx) :
    IsReal (x i) := by
  have hb : cmpf .olt (Host.absf x) (broadcastInDim S4x8192x64 ![] bcast_S_S4x8192x64 (constant S_ .f32 0x7F800000#32)) i = 1#1 :=
    Host.reduce_andi_all _ _ _ _ ix0 (congrFun h ix0) i
  have hc : BitVec.ofBool (decide (max (x i : EReal) (-(x i)) < Ideal.ofBits .f32 0x7F800000#32)) = 1#1 := hb
  rw [pos_inf] at hc
  by_cases hlt : max (x i : EReal) (-(x i)) < ⊤
  · exact isReal_of_abs hlt
  · rw [decide_eq_false hlt] at hc; exact absurd hc (by decide)

end Cert.Proof.Finite

end
-- ==== Proof.RefValue.lean ====
/-
  What the reference computes, over the extended reals, from a row's eight largest entries and their
  places. The shares of a row's eight entries sum to 1, so their mean is 1/8 whatever the entries; the
  places of a row are places among the 64 experts, so over the experts the counts sum to 8. The sum over
  every row and expert is then 4096, and the loss a number that doesn't depend on the input.
-/
module

public import Idealize.ShloMosaic.PureOps.Ideal.Laws
public import Idealize.ShloMosaic.Lib.IdealHost
public import Idealize.ShloMosaic.Lib.Pipeline.Value
public import proofs.«01_k».proof.Proof.Softmax
public import proofs.«01_k».proof.Proof.Gen.ReferenceIdeal

@[expose] public section

noncomputable section

namespace Cert.Proof.RefValue

open Cert.ReferenceIdeal Cert.ReferenceIdeal.Gen Cert.ReferenceIdeal.Facts Cert.Proof.Softmax
open Idealize.ShloMosaic Idealize.ShloMosaic.ValueIdx

variable (V : FVec Ideal S32768x8 .f32) (I : IVec S32768x8 32)

/-- A row's number at each of its eight entries. -/
def spread (x : FVec Ideal S32768 .f32) : FVec Ideal S32768x8 .f32 :=
  broadcastInDim S32768x8 ![0, 1] bcast_S32768x1_S32768x8_0_1 (broadcastInDim S32768x1 ![0] bcast_S32768_S32768x1_0 x)

/-- Each row's maximum. -/
def rowMax : FVec Ideal S32768 .f32 :=
  maximumf (broadcastInDim S32768 ![] bcast_S_S32768 (constant S_ .f32 0xFF800000#32))
    (Host.reduce FloatOps.maximumf V (constant S_ .f32 0xFF800000#32) reducesTo_S32768x8_S32768_d1 h_S_)

/-- The sum of each row's eight entries. -/
def rowSum (x : FVec Ideal S32768x8 .f32) : FVec Ideal S32768 .f32 :=
  Host.reduceAdd x (constant S_ .f32 0x00000000#32) reducesTo_S32768x8_S32768_d1 h_S_

/-- The entries' weights. -/
def weights : FVec Ideal S32768x8 .f32 := Host.exp (subf V (spread (rowMax V)))

/-- The mean over each row of the entries' shares. -/
def meanShare : FVec Ideal S32768 .f32 :=
  Host.divf (rowSum (Host.divf (weights V) (spread (rowSum (weights V))))) (broadcastInDim S32768 ![] bcast_S_S32768 (constant S_ .f32 0x41000000#32))

/-- Whether the `k`-th place of a row is the expert, as a number. -/
def onehot : FVec Ideal S32768x8x64 .f32 :=
  sitofp .f32 (Host.reduce IntOp.maxsi (extui 32 (cmpi .eq (broadcastInDim S32768x8x1x64 ![0, 1, 2, 3] bcast_S32768x8x1x1_S32768x8x1x64_0_1_2_3
      (broadcastInDim S32768x8x1x1 ![0, 1, 2] bcast_S32768x8x1_S32768x8x1x1_0_1_2 (broadcastInDim S32768x8x1 ![0, 1] bcast_S32768x8_S32768x8x1_0_1 I)))
    (broadcastInDim S32768x8x1x64 ![0, 1, 2, 3] bcast_S1x1x1x64_S32768x8x1x64_0_1_2_3 (iotaInDim S1x1x1x64 32 3))) natLt_1_32)
    (constantI S_ 32 2147483648#32) reducesTo_S32768x8x1x64_S32768x8x64_d2 h_S_)

/-- How many of a row's places are the expert. -/
def counts : FVec Ideal S32768x64 .f32 :=
  Host.reduceAdd (onehot I) (constant S_ .f32 0x00000000#32) reducesTo_S32768x8x64_S32768x64_d1 h_S_

/-- An expert's part of a row's loss: how often the row picked it, times the row's mean share. -/
def inner : FVec Ideal S32768x64 .f32 :=
  mulf (Host.divf (counts I) (broadcastInDim S32768x64 ![] bcast_S_S32768x64 (constant S_ .f32 0x41000000#32)))
    (broadcastInDim S32768x64 ![0, 1] bcast_S32768x1_S32768x64_0_1 (broadcastInDim S32768x1 ![0] bcast_S32768_S32768x1_0 (meanShare V)))

/-- The reference's loss from the eight entries and places of each row. -/
def loss : FVec Ideal S_ .f32 :=
  mulf (constant S_ .f32 0x3C23D70A#32) (mulf (Host.divf (Host.reduceAdd (inner V I)
    (constant S_ .f32 0x00000000#32) reducesTo_S32768x64_S_d0_1 h_S_) (constant S_ .f32 0x4A000000#32)) (constant S_ .f32 0x45800000#32))

theorem eight : Ideal.ofBits .f32 0x41000000#32 = ((8 : ℝ) : EReal) := by
  simp [Ideal.ofBits, Ideal.ieee, -EReal.coe_mul]; norm_num

theorem area : Ideal.ofBits .f32 0x4A000000#32 = ((2097152 : ℝ) : EReal) := by
  simp [Ideal.ofBits, Ideal.ieee, -EReal.coe_mul]; norm_num

theorem scale : Ideal.ofBits .f32 0x45800000#32 = ((4096 : ℝ) : EReal) := by
  simp [Ideal.ofBits, Ideal.ieee, -EReal.coe_mul]; norm_num

theorem hred8 : S32768x8.Reduces [1] S32768 := by decide
theorem hred64 : S32768x8x64.Reduces [1] S32768x64 := by decide
theorem hred1 : S32768x8x1x64.Reduces [2] S32768x8x64 := by decide

theorem spread_at (x : FVec Ideal S32768 .f32) (j : S32768x8.Idx) : spread x j = x (ix1 (j 0)) := by
  refine (broadcastInDim_apply _ _ _ _ (ix2 (j 0) 0) ?_).trans (broadcastInDim_apply _ _ _ _ (ix1 (j 0)) ?_)
  · intro a; fin_cases a <;> rfl
  · intro a; fin_cases a; rfl

theorem rowSum_at (x : FVec Ideal S32768x8 .f32) (r : Fin 32768) : rowSum x (ix1 r) = ∑ k : Fin 8, x (ix2 r k) := by
  refine (hostReduceAdd_apply _ _ _ _ _).trans ((Ideal.hostReduceAdd_single _ hred8 _ _ _).trans ?_)
  refine (congrArg₂ (fun p q : EReal => p + q) zero_f32 (Finset.sum_congr rfl fun k _ => congrArg x ?_)).trans (zero_add _)
  funext a; fin_cases a <;> rfl

/-- The maximum of a row of reals is a real number. -/
theorem rowMax_real (hV : ∀ j, IsReal (V j)) (r : Fin 32768) : IsReal (rowMax V (ix1 r)) := by
  have h : Host.reduce FloatOps.maximumf V (constant S_ .f32 0xFF800000#32) reducesTo_S32768x8_S32768_d1 h_S_ (ix1 r)
      = (Finset.univ : Finset (Fin 8)).fold max ⊥ (V ∘ hred8.lift (ix1 r)) :=
    (Host.reduce_eq_fold_single _ _ _ _ hred8 _ _).trans
      (congrArg (fun b : EReal => (Finset.univ : Finset (Fin 8)).fold max b (V ∘ hred8.lift (ix1 r))) neg_inf)
  have h' : rowMax V (ix1 r) = (Finset.univ : Finset (Fin 8)).fold max ⊥ (V ∘ hred8.lift (ix1 r)) :=
    (congrArg₂ (fun p q : EReal => max p q) neg_inf h).trans (max_eq_right bot_le)
  rw [h']
  refine ⟨?_, ?_⟩
  · exact fold_above _ _ (0 : Fin 8) (Finset.mem_univ _) (hV _).1
  · exact fold_below _ _ fun i => (hV _).2

/-- A row's weights are positive reals. -/
theorem weights_pos (hV : ∀ j, IsReal (V j)) (r : Fin 32768) (k : Fin 8) : ∃ a : ℝ, 0 < a ∧ weights V (ix2 r k) = (a : EReal) := by
  obtain ⟨x, hx⟩ := (hV (ix2 r k)).coe
  obtain ⟨m, hm⟩ := (rowMax_real V hV r).coe
  refine ⟨Real.exp (x - m), Real.exp_pos _, ?_⟩
  have hs : spread (rowMax V) (ix2 r k) = (m : EReal) := (spread_at _ _).trans hm
  show Ideal.exp ((V (ix2 r k) : EReal) - spread (rowMax V) (ix2 r k)) = _
  rw [hx, hs, ← EReal.coe_sub, Ideal.exp_coe]

/-- The mean share of a row is 1/8. -/
theorem meanShare_at (hV : ∀ j, IsReal (V j)) (r : Fin 32768) : meanShare V (ix1 r) = ((1 / 8 : ℝ) : EReal) := by
  have h := sum_shares_one (fun k : Fin 8 => weights V (ix2 r k)) (weights_pos V hV r)
  have h1 : rowSum (Host.divf (weights V) (spread (rowSum (weights V)))) (ix1 r) = (1 : EReal) := by
    rw [rowSum_at, ← h]
    refine Finset.sum_congr rfl fun k _ => ?_
    have hs : spread (rowSum (weights V)) (ix2 r k) = ∑ k : Fin 8, weights V (ix2 r k) := (spread_at _ _).trans (rowSum_at _ r)
    rw [hostDivf_apply, hs]
  have h2 : broadcastInDim S32768 ![] bcast_S_S32768 (constant (F := Ideal) S_ .f32 0x41000000#32) (ix1 r) = ((8 : ℝ) : EReal) :=
    (broadcastInDim_scalar_apply _ _ _).trans eight
  rw [meanShare, hostDivf_apply, h1, h2, Ideal.div_coe (by norm_num), one_mul]

/-- A bit's word, clamped below at the least word, is the bit's word. -/
theorem bit_word (b : BitVec 1) : IntOp.maxsi (b.setWidth 32) 2147483648#32 = b.setWidth 32 := by
  revert b; decide

/-- The place a row's `k`-th entry came from, at each expert. -/
theorem place_at (r : Fin 32768) (k : Fin 8) (e : Fin 64) :
    broadcastInDim S32768x8x1x64 ![0, 1, 2, 3] bcast_S32768x8x1x1_S32768x8x1x64_0_1_2_3
      (broadcastInDim S32768x8x1x1 ![0, 1, 2] bcast_S32768x8x1_S32768x8x1x1_0_1_2
        (broadcastInDim S32768x8x1 ![0, 1] bcast_S32768x8_S32768x8x1_0_1 I)) (ix4 r k 0 e) = I (ix2 r k) := by
  refine (broadcastInDim_apply _ _ _ _ (ix4 r k 0 0) ?_).trans ((broadcastInDim_apply _ _ _ _ (ix3 r k 0) ?_).trans
    (broadcastInDim_apply _ _ _ _ (ix2 r k) ?_)) <;> intro a <;> fin_cases a <;> rfl

/-- The expert's number, at each row and place. -/
theorem expert_at (r : Fin 32768) (k : Fin 8) (e : Fin 64) :
    broadcastInDim S32768x8x1x64 ![0, 1, 2, 3] bcast_S1x1x1x64_S32768x8x1x64_0_1_2_3 (iotaInDim S1x1x1x64 32 3) (ix4 r k 0 e)
      = BitVec.ofNat 32 e.val := by
  refine (broadcastInDim_apply _ _ _ _ (ix4 0 0 0 e) ?_).trans rfl
  intro a; fin_cases a <;> rfl

/-- The number is 1 at the expert the place names, and 0 at the others. -/
theorem onehot_at (r : Fin 32768) (k : Fin 8) (e : Fin 64) :
    onehot I (ix3 r k e) = ((if I (ix2 r k) = BitVec.ofNat 32 e.val then 1 else 0 : ℝ) : EReal) := by
  have hl : hred1.lift (ix3 r k e) (0 : Fin 1) = ix4 r k 0 e := by funext a; fin_cases a <;> rfl
  have hr (x : IVec S32768x8x1x64 32) : Host.reduce IntOp.maxsi x (constantI S_ 32 2147483648#32) reducesTo_S32768x8x1x64_S32768x8x64_d2 h_S_
      (ix3 r k e) = IntOp.maxsi (x (ix4 r k 0 e)) 2147483648#32 := by
    refine (Host.reduce_eq_fold_single _ _ _ _ hred1 _ _).trans ?_
    rw [← hl]; exact Finset.fold_singleton (b := 2147483648#32) (f := x ∘ hred1.lift (ix3 r k e)) (a := (0 : Fin 1))
  refine (congrArg (fun w : BitVec 32 => ((w.toInt : ℝ) : EReal)) ((hr _).trans (bit_word _))).trans ?_
  show (((((BitVec.ofBool (_ == _)).setWidth 32 : BitVec 32).toInt : ℝ)) : EReal) = _
  rw [place_at, expert_at]
  by_cases h : I (ix2 r k) = BitVec.ofNat 32 e.val
  · have h1 : ((BitVec.ofBool true).setWidth 32 : BitVec 32).toInt = 1 := by decide
    rw [if_pos h, beq_iff_eq.mpr h, h1]; norm_num
  · have h0 : ((BitVec.ofBool false).setWidth 32 : BitVec 32).toInt = 0 := by decide
    rw [if_neg h, beq_eq_false_iff_ne.mpr h, h0]; norm_num

theorem counts_at (r : Fin 32768) (e : Fin 64) :
    counts I (ix2 r e) = ((∑ k : Fin 8, if I (ix2 r k) = BitVec.ofNat 32 e.val then 1 else 0 : ℝ) : EReal) := by
  refine (hostReduceAdd_apply _ _ _ _ _).trans ((Ideal.hostReduceAdd_single _ hred64 _ _ _).trans ?_)
  rw [coe_sum]
  refine (congrArg₂ (fun p q : EReal => p + q) zero_f32 (Finset.sum_congr rfl fun k _ => ?_)).trans (zero_add _)
  refine (congrArg (onehot I) ?_).trans (onehot_at I r k e)
  funext a; fin_cases a <;> rfl

/-- Every one of a row's eight places is one expert's, so its counts sum to 8. -/
theorem experts_sum (hI : ∀ j, ∃ e : Fin 64, I j = BitVec.ofNat 32 e.val) (r : Fin 32768) :
    (∑ e : Fin 64, ∑ k : Fin 8, if I (ix2 r k) = BitVec.ofNat 32 e.val then (1 : ℝ) else 0) = 8 := by
  have h (k : Fin 8) : (∑ e : Fin 64, if I (ix2 r k) = BitVec.ofNat 32 e.val then (1 : ℝ) else 0) = 1 := by
    obtain ⟨p, hp⟩ := hI (ix2 r k)
    rw [Finset.sum_eq_single p]
    · rw [if_pos hp]
    · intro e _ he
      rw [if_neg fun h => he ?_]
      have hw := congrArg BitVec.toNat (hp.symm.trans h)
      simp only [BitVec.toNat_ofNat] at hw
      have := p.isLt; have := e.isLt
      exact Fin.ext (by omega)
    · exact fun h => absurd (Finset.mem_univ _) h
  rw [Finset.sum_comm, Finset.sum_congr rfl fun k _ => h k]
  norm_num

/-- A row's mean share, at each expert. -/
theorem mean_at (x : FVec Ideal S32768 .f32) (r : Fin 32768) (e : Fin 64) :
    broadcastInDim S32768x64 ![0, 1] bcast_S32768x1_S32768x64_0_1 (broadcastInDim S32768x1 ![0] bcast_S32768_S32768x1_0 x) (ix2 r e)
      = x (ix1 r) := by
  refine (broadcastInDim_apply _ _ _ _ (ix2 r 0) ?_).trans (broadcastInDim_apply _ _ _ _ (ix1 r) ?_)
  · intro a; fin_cases a <;> rfl
  · intro a; fin_cases a; rfl

theorem inner_at (hV : ∀ j, IsReal (V j)) (r : Fin 32768) (e : Fin 64) :
    inner V I (ix2 r e) = (((∑ k : Fin 8, if I (ix2 r k) = BitVec.ofNat 32 e.val then 1 else 0) * (1 / 64) : ℝ) : EReal) := by
  have h8 : broadcastInDim S32768x64 ![] bcast_S_S32768x64 (constant (F := Ideal) S_ .f32 0x41000000#32) (ix2 r e) = ((8 : ℝ) : EReal) :=
    (broadcastInDim_scalar_apply _ _ _).trans eight
  refine (congrArg₂ (fun p q : EReal => p * q) ((hostDivf_apply _ _ _).trans (congrArg₂ Ideal.div (counts_at I r e) h8))
    ((mean_at _ r e).trans (meanShare_at V hV r))).trans ?_
  rw [Ideal.div_coe (by norm_num), ← EReal.coe_mul, ← EReal.coe_mul]
  congr 1; ring

/-- A double sum of reals whose rows all come to the same. -/
theorem rows_sum {n k : ℕ} (f : Fin n → Fin k → EReal) (g : Fin n → Fin k → ℝ) {c : ℝ} (hf : ∀ r e, f r e = (g r e : EReal))
    (h : ∀ r, ∑ e, g r e = c) : ∑ r, ∑ e, f r e = ((n * c : ℝ) : EReal) := by
  have hg : ∑ r, ∑ e, g r e = n * c := by simp only [h, Finset.sum_const, Finset.card_univ, Fintype.card_fin, nsmul_eq_mul]
  rw [← hg]; simp only [coe_sum, hf]

/-- Over every row and expert the parts sum to 4096: 8 counts a row, each an eighth of an eighth. -/
theorem inner_sum (hV : ∀ j, IsReal (V j)) (hI : ∀ j, ∃ e : Fin 64, I j = BitVec.ofNat 32 e.val) (j : S_.Idx) :
    Host.reduceAdd (inner V I) (constant S_ .f32 0x00000000#32) reducesTo_S32768x64_S_d0_1 h_S_ j = ((4096 : ℝ) : EReal) := by
  refine (hostReduceAdd_apply _ _ _ _ _).trans ((Ideal.hostReduceAdd_total _ (fun b => b.elim0) _ _ _).trans ?_)
  have h : (∑ i : S32768x64.Idx, inner V I i) = ((4096 : ℝ) : EReal) := by
    have hr := rows_sum (n := 32768) (k := 64) (c := 1 / 8) (fun r e => inner V I (ix2 r e))
      (fun r e => (∑ k : Fin 8, if I (ix2 r k) = BitVec.ofNat 32 e.val then 1 else 0) * (1 / 64)) (inner_at V I hV) fun r => by
        rw [← Finset.sum_mul, experts_sum I hI]; norm_num
    exact (sum_idx2 _).trans (hr.trans (congrArg (fun r : ℝ => (r : EReal)) (by norm_num)))
  exact (congrArg₂ (fun p q : EReal => p + q) zero_f32 h).trans (zero_add _)

/-- The number the loss is: eight times the loss's weight, 0.01 as a 32-bit float. -/
def lossVal : ℝ := 10737418 / 2 ^ 27

theorem coef : Ideal.ofBits .f32 0x3C23D70A#32 = ((10737418 / 2 ^ 30 : ℝ) : EReal) := by
  simp [Ideal.ofBits, Ideal.ieee, -EReal.coe_mul]; norm_num

/-- The loss from any real entries and any places. -/
theorem loss_eq (hV : ∀ j, IsReal (V j)) (hI : ∀ j, ∃ e : Fin 64, I j = BitVec.ofNat 32 e.val) : loss V I = fun _ => ((lossVal : ℝ) : EReal) := by
  funext j
  refine (congrArg₂ (fun p q : EReal => p * q) coef (congrArg₂ (fun p q : EReal => p * q)
    ((hostDivf_apply _ _ _).trans (congrArg₂ Ideal.div (inner_sum V I hV hI j) area)) scale)).trans ?_
  rw [Ideal.div_coe (by norm_num), ← EReal.coe_mul, ← EReal.coe_mul, ← EReal.coe_mul]
  exact congrArg (fun r : ℝ => (r : EReal)) (by norm_num [lossVal])

/-- Each of a row's eight entries is one of the row's, and its place a place among the 64. -/
theorem topK_at (x : FVec Ideal S32768x64 .f32) (j : S32768x8.Idx) :
    (∃ i, (Host.topK S32768x8 1 (FloatOps.cmpfTotal .gt) x sliceFits_S32768x64_S32768x8).1 j = x i)
      ∧ ∃ e : Fin 64, (Host.topK S32768x8 1 (FloatOps.cmpfTotal .gt) x sliceFits_S32768x64_S32768x8).2 j = BitVec.ofNat 32 e.val :=
  ⟨⟨_, rfl⟩, ⟨_, rfl⟩⟩

/-- The reference's loss of an array of reals. -/
theorem ref_eq (x : FVec Ideal S32768x64 .f32) (hx : ∀ i, IsReal (x i)) :
    loss (Host.topK S32768x8 1 (FloatOps.cmpfTotal .gt) x sliceFits_S32768x64_S32768x8).1
      (Host.topK S32768x8 1 (FloatOps.cmpfTotal .gt) x sliceFits_S32768x64_S32768x8).2 = fun _ => ((lossVal : ℝ) : EReal) := by
  refine loss_eq _ _ (fun j => ?_) (fun j => (topK_at x j).2)
  obtain ⟨i, hi⟩ := (topK_at x j).1
  rw [hi]; exact hx i

end Cert.Proof.RefValue

end
-- ==== Proof.TcValue.lean ====
/-
  The TensorCore call's sum over the extended reals. Each grid point adds the contributions of its 512
  rows, 1/8 a row whatever the rows hold, provided they hold real numbers: after `n` points the word is
  `64 n`. All that is needed of the eight values a row's shares are worked out from is that the first,
  its maximum, is a real number, and that none of them is `+∞`.
-/
module

public import Idealize.ShloMosaic.PureOps.Ideal.Laws
public import proofs.«01_k».proof.Proof.Softmax
public import proofs.«01_k».proof.Proof.TcBody

@[expose] public section

noncomputable section

namespace Cert.Proof.TcValue

open Cert.KernelIdeal Cert.KernelIdeal.Gen Cert.Proof.Rows Cert.Proof.Softmax Cert.Proof.TcBody
open Idealize.ShloMosaic

/-- No entry is `+∞`. -/
def Below {s : Shape} (v : s.Idx → EReal) : Prop := ∀ i, v i ≠ ⊤

/-- Every entry is a real number. -/
def Reals {s : Shape} (v : s.Idx → EReal) : Prop := ∀ i, IsReal (v i)

theorem Reals.below {s : Shape} {v : s.Idx → EReal} (h : Reals v) : Below v := fun i => (h i).2

/-- The maximum down each column. -/
def colMax (v : FVec Ideal S64x256 .f32) : FVec Ideal S256 .f32 :=
  multiReduction .maximumf [0] S256 v 0xFF800000#32 reduces_S64x256_S256 (.inl rfl) rfl

/-- It is the largest of the column's 64 entries. -/
theorem colMax_eq (v : FVec Ideal S64x256 .f32) (j : S256.Idx) :
    colMax v j = (Finset.univ : Finset (Fin 64)).fold max ⊥ (v ∘ reduces_S64x256_S256.lift j) :=
  (Ideal.multiReduction_maximumf_single v _ reduces_S64x256_S256 (.inl rfl) rfl j).trans
    (congrArg (fun b : EReal => (Finset.univ : Finset (Fin 64)).fold max b (v ∘ reduces_S64x256_S256.lift j)) neg_inf)

/-- A column's maximum is below `+∞` where the entries are, and a real number where they are. -/
theorem below_colMax {v : FVec Ideal S64x256 .f32} (h : Below v) : Below (colMax v) := fun j => by
  rw [colMax_eq]; exact fold_below _ _ fun i => h _

theorem reals_colMax {v : FVec Ideal S64x256 .f32} (h : Reals v) : Reals (colMax v) := fun j => by
  refine ⟨?_, below_colMax h.below j⟩
  rw [colMax_eq]; exact fold_above _ _ (⟨0, by decide⟩ : Fin 64) (Finset.mem_univ _) (h _).1

/-- Masking entries with `-∞` brings no `+∞` in. -/
theorem below_mask {v : FVec Ideal S64x256 .f32} (c : IVec S64x256 1) (h : Below v) :
    Below (select c (broadcast S64x256 (Scalar.ofBits (F := Ideal) .f32 0xFF800000#32)) v) := fun i => by
  show (if c i = 1 then Ideal.ofBits .f32 0xFF800000#32 else v i) ≠ ⊤
  split
  · rw [neg_inf]; exact bot_ne_top
  · exact h i

/-- A point's row shares, added up over its columns and scaled by 1/8. -/
def total (v : FVec Ideal S256 .f32) : Ideal .f32 :=
  Scalar.mulf (extractAt ![0, 0] (shapeCast S1x1 (multiReduction .add [1] S1 (shapeCast S1x256 v shapeCasts_S256_S1x256) 0x00000000#32
    reduces_S1x256_S1 (.inl rfl) rfl) shapeCasts_S1_S1x1) inpos_S1x1_p0_0) (Scalar.ofBits .f32 0x3E000000#32)

/-- Half a block of rows whose shares are 1 each comes to 32. -/
theorem total_ones {v : FVec Ideal S256 .f32} (h : ∀ j, v j = (1 : EReal)) : total v = ((32 : ℝ) : EReal) := by
  have hs : ∀ j, multiReduction .add [1] S1 (shapeCast S1x256 v shapeCasts_S256_S1x256) 0x00000000#32 reduces_S1x256_S1 (.inl rfl) rfl j
      = ((256 : ℝ) : EReal) := fun j => by
    refine (Ideal.multiReduction_add_single _ _ reduces_S1x256_S1 (.inl rfl) rfl j).trans ?_
    refine (Finset.sum_congr rfl fun k _ => h _).trans ?_
    show (∑ _k : Fin 256, (1 : EReal)) = _
    rw [Finset.sum_const, Finset.card_univ, Fintype.card_fin, nsmul_one, ← EReal.coe_natCast]; norm_num
  refine (congrArg₂ (fun p q : EReal => p * q) (hs _) eighth).trans ?_
  rw [← EReal.coe_mul]; norm_num

/-- The shares of eight vectors of weights, column by column. -/
def colShares (e : Fin 8 → FVec Ideal S256 .f32) : FVec Ideal S256 .f32 :=
  let t := addf (addf (addf (addf (addf (addf (addf (e 0) (e 1)) (e 2)) (e 3)) (e 4)) (e 5)) (e 6)) (e 7)
  addf (addf (addf (addf (addf (addf (addf (divf (e 0) t) (divf (e 1) t)) (divf (e 2) t)) (divf (e 3) t)) (divf (e 4) t)) (divf (e 5) t))
    (divf (e 6) t)) (divf (e 7) t)

/-- Half a block whose rows' eight values are `w0` … `w7` comes to 32. -/
theorem half {w0 w1 w2 w3 w4 w5 w6 w7 : FVec Ideal S256 .f32} (h0 : Reals w0) (h1 : Below w1) (h2 : Below w2) (h3 : Below w3) (h4 : Below w4)
    (h5 : Below w5) (h6 : Below w6) (h7 : Below w7) :
    total (colShares ![exp (subf w0 w0), exp (subf w1 w0), exp (subf w2 w0), exp (subf w3 w0), exp (subf w4 w0), exp (subf w5 w0),
      exp (subf w6 w0), exp (subf w7 w0)]) = ((32 : ℝ) : EReal) :=
  total_ones fun j => shares_at (m := ![w0 j, w1 j, w2 j, w3 j, w4 j, w5 j, w6 j, w7 j]) (h0 j) fun k => by
    fin_cases k
    exacts [(h0 j).2, h1 j, h2 j, h3 j, h4 j, h5 j, h6 j, h7 j]

/-- The first 256 rows of a block come to 32. -/
theorem firstHalf {v4 v10 v16 v22 v28 v34 v40 : FVec Ideal S256 .f32} {v39 v42 : FVec Ideal S64x256 .f32} (h4 : Reals v4) (h10 : Below v10)
    (h16 : Below v16) (h22 : Below v22) (h28 : Below v28) (h34 : Below v34) (h39 : Below v39) (h40 : Below v40) :
    k1_pay19 v4 v10 v16 v22 v28 v34 v39 v40 v42 = ((32 : ℝ) : EReal) := by
  exact half h4 h10 h16 h22 h28 h34 h40 (below_colMax (below_mask (cmpf .oeq v39 v42) h39))

/-- The other 256 rows come to 32 as well, and both are added to what the word held. -/
theorem secondHalf {v89 : Ideal .f32} {v92 v122 v128 v134 x1 x2 x3 x4 : FVec Ideal S256 .f32} {a : Vec Ideal S1x1 .f32} {r : ℝ}
    (h89 : v89 = ((32 : ℝ) : EReal)) (h92 : Reals v92) (h1 : Below x1) (h2 : Below x2) (h3 : Below x3) (h4 : Below x4)
    (h122 : Below v122) (h128 : Below v128) (h134 : Below v134) (ha : ∀ x, a x = ((r : ℝ) : EReal)) (x : S1x1.Idx) :
    k1_pay2 v89 v92 v122 v128 v134 (exp (subf v92 v92)) (exp (subf x1 v92)) (exp (subf x2 v92)) (exp (subf x3 v92)) (subf x4 v92) a x
      = ((r + 64 : ℝ) : EReal) := by
  refine (congrArg₂ (fun p q : EReal => p + q) (ha _) (congrArg₂ (fun p q : EReal => p + q) h89 (half h92 h1 h2 h3 h4 h122 h128 h134))).trans ?_
  rw [← EReal.coe_add, ← EReal.coe_add]; norm_num

/-- A grid point whose block holds real numbers adds 64 to the word. -/
theorem point {v0 : Vec Ideal S1x512x64 .f32} {a : Vec Ideal S1x1 .f32} {r : ℝ} (h : Reals v0) (ha : ∀ x, a x = ((r : ℝ) : EReal)) (x : S1x1.Idx) :
    tcAdd v0 a x = ((r + 64 : ℝ) : EReal) := by
  have p4 : Reals (k1_pay4 v0) := fun i => h _
  have p6 : Below (k1_pay6 v0) := below_mask _ p4.below
  have p8 : Below (k1_pay8 v0) := below_mask _ p6
  have p10 : Below (k1_pay10 v0) := below_mask _ p8
  have p12 : Below (k1_pay12 v0) := below_mask _ p10
  have p14 : Below (k1_pay14 v0) := below_mask _ p12
  have p16 : Below (k1_pay16 v0) := below_mask _ p14
  have q20 : Reals (k1_pay20 (k1_pay3 v0)) := fun i => h _
  have q24 : Below (k1_pay24 (k1_pay20 (k1_pay3 v0)) (k1_pay22 (k1_pay3 v0)) k1_pay23) := below_mask _ q20.below
  have q26 : Below (k1_pay26 (k1_pay20 (k1_pay3 v0)) (k1_pay22 (k1_pay3 v0)) k1_pay23) := below_mask _ q24
  have q28 : Below (k1_pay28 (k1_pay20 (k1_pay3 v0)) (k1_pay22 (k1_pay3 v0)) k1_pay23) := below_mask _ q26
  have q30 : Below (k1_pay30 (k1_pay20 (k1_pay3 v0)) (k1_pay22 (k1_pay3 v0)) k1_pay23) := below_mask _ q28
  have q32 : Below (k1_pay32 (k1_pay20 (k1_pay3 v0)) (k1_pay22 (k1_pay3 v0)) k1_pay23) := below_mask _ q30
  have q34 : Below (k1_pay34 (k1_pay20 (k1_pay3 v0)) (k1_pay22 (k1_pay3 v0)) k1_pay23) := below_mask _ q32
  exact secondHalf (firstHalf (reals_colMax p4) (below_colMax p6) (below_colMax p8) (below_colMax p10) (below_colMax p12) (below_colMax p14)
      p16 (below_colMax p16)) (reals_colMax q20) (below_colMax q24) (below_colMax q26) (below_colMax q28) (below_colMax q30)
    (below_colMax q32) (below_colMax q34) (below_colMax (below_mask _ q34)) ha x

/-- What the TensorCore call's running sum is after `n` points. -/
def tcVals : TcVals vals where
  sum n x := x = ((64 * n : ℝ) : EReal)
  zero := by
    show Ideal.ofBits .f32 0x00000000#32 = _
    rw [zero_f32]; norm_num
  step {n v0 a} h ha x := by
    refine (point (fun i => h.all i) ha x).trans ?_
    congr 1; push_cast; ring

end Cert.Proof.TcValue

end
-- ==== Proof.KernelValue.lean ====
/-
  What the kernel's host operations make of the tiles' sums and the TensorCore call's sum, over the
  extended reals: 32 tiles' 16 lanes of 4 each are 2048, the other sum is 2048 too, and the scaled total
  is the number the reference's loss is.
-/
module

public import proofs.«01_k».proof.Proof.TcValue
public import proofs.«01_k».proof.Proof.RefValue
public import proofs.«01_k».proof.Proof.Launch

@[expose] public section

noncomputable section

namespace Cert.Proof.KernelValue

open Cert.KernelIdeal Cert.KernelIdeal.Gen Cert.KernelIdeal.Facts Cert.Proof.Rows Cert.Proof.Softmax Cert.Proof.TcValue Cert.Proof.RefValue
open Idealize.ShloMosaic Idealize.ShloMosaic.ValueIdx

theorem factor : Ideal.ofBits .f32 0x37A3D70A#32 = ((10737418 / 2 ^ 39 : ℝ) : EReal) := by
  simp [Ideal.ofBits, Ideal.ieee, -EReal.coe_mul]; norm_num

/-- 32 tiles' 16 lanes of 4 each sum to 2048. -/
theorem lanes_sum (p : FVec Ideal S32x16 .f32) (hp : ∀ x, p x = ((4 : ℝ) : EReal)) (j : S_.Idx) :
    Host.reduceAdd p (constant S_ .f32 0x00000000#32) reducesTo_S32x16_S_d0_1 h_S_ j = ((2048 : ℝ) : EReal) := by
  refine (hostReduceAdd_apply _ _ _ _ _).trans ((Ideal.hostReduceAdd_total _ (fun b => b.elim0) _ _ _).trans ?_)
  have h : (∑ i : S32x16.Idx, p i) = ((2048 : ℝ) : EReal) := by
    have hr := rows_sum (n := 32) (k := 16) (c := 64) (fun r e => p (ix2 r e)) (fun _ _ => 4) (fun _ _ => hp _) fun r => by norm_num
    exact (sum_idx2 _).trans (hr.trans (congrArg (fun r : ℝ => (r : EReal)) (by norm_num)))
  exact (congrArg₂ (fun p q : EReal => p + q) zero_f32 h).trans (zero_add _)

/-- The kernel's result, from the tiles' sums after 16 trips and the other sum after 32 points. -/
theorem result_eq (p : FVec Ideal S32x16 .f32) (t : FVec Ideal S1x1 .f32) (hp : ∀ x, vals.acc 16 (p x)) (ht : ∀ x, tcVals.sum 32 (t x)) :
    Launch.resOf p t = fun _ => ((lossVal : ℝ) : EReal) := by
  have hp' (x : S32x16.Idx) : p x = ((4 : ℝ) : EReal) := (hp x).trans (congrArg (fun r : ℝ => (r : EReal)) (by norm_num))
  have ht' (x : S1x1.Idx) : t x = ((2048 : ℝ) : EReal) := (ht x).trans (congrArg (fun r : ℝ => (r : EReal)) (by norm_num))
  funext j
  refine (congrArg₂ (fun p q : EReal => p * q) (congrArg₂ (fun p q : EReal => p + q) (lanes_sum p hp' j) (ht' _)) factor).trans ?_
  rw [← EReal.coe_add, ← EReal.coe_mul]
  exact congrArg (fun r : ℝ => (r : EReal)) (by norm_num [lossVal])

/-- Where the launch starts from real numbers, it ends with its result that number. -/
theorem run_value (m : (ℓ : Loc nD τ sig) → Buf (Elt Ideal) ℓ) (ρ : Dev nD → PrngReg)
    (hm : ∀ c : Dev nD, ∀ i : S4x8192x64.Idx, IsReal ((m ((c.tc : Thread nD τ).loc main_arg0) : FVec Ideal S4x8192x64 .f32) i)) :
    θ_run (Cert.KernelIdeal.defs (F := Ideal)) (Cert.KernelIdeal.threads (F := Ideal)) ⟨m, fun _ => 0, ρ⟩ fun r => ∀ c : Dev nD,
      r.2.mem ((c.tc : Thread nD τ).loc main_v5) = (fun _ => ((lossVal : ℝ) : EReal) : FVec Ideal S_ .f32)
        ∧ r.2.mem ((c.tc : Thread nD τ).loc main_arg0) = m ((c.tc : Thread nD τ).loc main_arg0) :=
  (θ_run Cert.KernelIdeal.defs _ _).mono
    (fun r h c => by
      obtain ⟨hx, p, t, ⟨hp, ht⟩, e⟩ := h.1 c
      exact ⟨e.trans (result_eq p t hp ht), hx⟩)
    (Launch.run_main tcVals m ρ fun d => ⟨fun i => hm d i⟩)

end Cert.Proof.KernelValue

end
-- ==== Proof.lean ====
/-
  The certificate of the router loss kernel. Over the extended reals, on finite input, the kernel
  (`KernelValue`) and the reference (`RefValue`) each come to one number, the same for every input. The
  frames are the kernel's at both readings of floats (`Frames`) and the reference's run of its host
  operations. No operation was replaced, so `preserves` says nothing.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite
public import proofs.«01_k».proof.Proof.Frames
public import proofs.«01_k».proof.Proof.Finite
public import proofs.«01_k».proof.Proof.RefValue
public import proofs.«01_k».proof.Proof.KernelValue
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its argument alone, and has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_finite : Cert.quiescent_ReferenceIdeal_pre_finite := fun m ρ _ => frame_reference m ρ trivial

/-- From finite input the kernel and the reference end with the same result, and with their argument unchanged. -/
theorem algebraic : Cert.algebraic_KernelIdeal_ReferenceIdeal_pre_finite := fun m g m' g' hpre hm => by
  have hreal c := Finite.real_of_finite _ (hpre c)
  refine ⟨fun _ _ => ((RefValue.lossVal : ℝ) : EReal), KernelValue.run_value m g hreal, ?_⟩
  refine (θ_run Cert.ReferenceIdeal.defs _ _).mono (fun r h c => ⟨(h c).1.trans ?_, (h c).2⟩) (Cert.ReferenceIdeal.Value.run (F := Ideal) m' g')
  exact RefValue.ref_eq _ fun i => (congrArg Softmax.IsReal (congrFun (hm c) _)).mpr (hreal c _)

theorem claim : Cert.Claim :=
  ⟨Cert.Kernel.Gen.facts, Cert.KernelIdeal.Gen.facts, Cert.ReferenceIdeal.Gen.facts, Cert.Pre_finite.Gen.facts,
    frame_kernel, frame_kernelIdeal, frame_kernelIdeal_finite, frame_reference, frame_reference_finite, trivial, algebraic⟩

end Cert.Proof

end
